-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  bcast_S_S512x16 : S_.BroadcastsInDim S512x16 (![] : Fin 0 → Fin S512x16.rank)

variable [Facts]

def fn {F : FTy → Type} [FloatOps F] (main_arg0 : FVec F S1024x512 .bf16) (main_arg1 : FVec F S512x16 .bf16) (main_arg2 : IVec S1024x1 32) (main_arg3 : FVec F S4x512x1024 .bf16) (main_arg4 : FVec F S512x1024 .bf16) : IVec S1024x512 1 × IVec S512x16 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_v4 : FVec F S512x16 .f32 := (extf .f32 · bitsLt_bf16_f32) main_arg1
  let main_v5 : FVec F S512x16 .f32 := Host.absf main_v4
  let main_cst_0 : FVec F S_ .f32 := constant S_ .f32 0x7F800000#32
  let main_v6 : FVec F S512x16 .f32 := broadcastInDim S512x16 ![] bcast_S_S512x16 main_cst_0
  let main_v7 : IVec S512x16 1 := cmpf .olt main_v5 main_v6
  (main_v3, main_v7)
-- ==== Pre_finite_inputs_ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  bcast_S_S512x16 : S_.BroadcastsInDim S512x16 (![] : Fin 0 → Fin S512x16.rank)

variable [Facts]

def fn {F : FTy → Type} [FloatOps F] (main_arg0 : FVec F S1024x512 .bf16) (main_arg1 : FVec F S512x16 .bf16) (main_arg2 : IVec S1024x1 32) (main_arg3 : FVec F S16x512x1024 .bf16) (main_arg4 : FVec F S512x1024 .bf16) : IVec S1024x512 1 × IVec S512x16 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_v4 : FVec F S512x16 .f32 := (extf .f32 · bitsLt_bf16_f32) main_arg1
  let main_v5 : FVec F S512x16 .f32 := Host.absf main_v4
  let main_cst_0 : FVec F S_ .f32 := constant S_ .f32 0x7F800000#32
  let main_v6 : FVec F S512x16 .f32 := broadcastInDim S512x16 ![] bcast_S_S512x16 main_cst_0
  let main_v7 : IVec S512x16 1 := cmpf .olt main_v5 main_v6
  (main_v3, main_v7)
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S4x1024x1024 : Shape := ⟨3, ![4, 1024, 1024]⟩
abbrev S3 : Shape := ⟨1, ![3]⟩
abbrev S_ : Shape := ⟨0, ![]⟩
abbrev S1024x16 : Shape := ⟨2, ![1024, 16]⟩
abbrev S1024 : Shape := ⟨1, ![1024]⟩
abbrev S1024x4 : Shape := ⟨2, ![1024, 4]⟩
abbrev S1x512x1024 : Shape := ⟨3, ![1, 512, 1024]⟩
abbrev S256x512 : Shape := ⟨2, ![256, 512]⟩
abbrev S256x1024 : Shape := ⟨2, ![256, 1024]⟩
abbrev S1x1024x1024 : Shape := ⟨3, ![1, 1024, 1024]⟩
abbrev S1 : Shape := ⟨1, ![1]⟩

abbrev nBuf : Space → Nat
  | .hbm => 6
  | .vmem => 7
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x1, .i32⟩
  | .hbm, ⟨3, _⟩ => ⟨S4x512x1024, .bf16⟩
  | .hbm, ⟨4, _⟩ => ⟨S512x1024, .bf16⟩
  | .hbm, ⟨5, _⟩ => ⟨S1024x1024, .f32⟩
  | .local _ .vmem, ⟨0, _⟩ => ⟨S1024x512, .bf16⟩
  | .local _ .vmem, ⟨1, _⟩ => ⟨S512x16, .bf16⟩
  | .local _ .vmem, ⟨2, _⟩ => ⟨S1024x1, .i32⟩
  | .local _ .vmem, ⟨3, _⟩ => ⟨S4x512x1024, .bf16⟩
  | .local _ .vmem, ⟨4, _⟩ => ⟨S512x1024, .bf16⟩
  | .local _ .vmem, ⟨5, _⟩ => ⟨S1024x1024, .f32⟩
  | .local _ .vmem, ⟨6, _⟩ => ⟨S4x1024x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_4 : BitVec 32 := 1#32
  let v8 : BitVec 32 := Scalar.muli v6 c1_i32_4
  let v9 : BitVec 32 := Scalar.addi c0_i32 v8
  v9.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v80 : BitVec 32 := Scalar.muli v2 c256_i32
  let v81 : Index := Scalar.indexCast v80
  let c0_31 : Index := 0#32
  ![v81.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_37 : BitVec 32 := 256#32
  let v88 : BitVec 32 := Scalar.muli v2 c256_i32_37
  let v89 : Index := Scalar.indexCast v88
  let c0_38 : Index := 0#32
  ![v89.toNat, 0]
def k0_dev2 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_49 : BitVec 32 := 1#32
  let v101 : BitVec 32 := Scalar.muli v4 c1_i32_49
  let v102 : BitVec 32 := Scalar.addi c0_i32_50 v101
  v102.toNat
def k0_dev3 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_84 : BitVec 32 := 1#32
  let v132 : BitVec 32 := Scalar.muli v4 c1_i32_84
  let v133 : BitVec 32 := Scalar.addi c0_i32_85 v132
  v133.toNat
def k0_dev4 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_120 : BitVec 32 := 1#32
  let v163 : BitVec 32 := Scalar.muli v4 c1_i32_120
  let v164 : BitVec 32 := Scalar.addi c0_i32_121 v163
  v164.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S512x1024 : Shape := ⟨2, ![512, 1024]⟩
abbrev S1024x16 : Shape := ⟨2, ![1024, 16]⟩
abbrev S_ : Shape := ⟨0, ![]⟩
abbrev S1024 : Shape := ⟨1, ![1024]⟩
abbrev S1024x1024 : Shape := ⟨2, ![1024, 1024]⟩
abbrev S1024x16x1024 : Shape := ⟨3, ![1024, 16, 1024]⟩
abbrev S16 : Shape := ⟨1, ![16]⟩
abbrev S1x16 : Shape := ⟨2, ![1, 16]⟩
abbrev S1024x16x1 : Shape := ⟨3, ![1024, 16, 1]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x1, .i32⟩
  | .hbm, ⟨3, _⟩ => ⟨S16x512x1024, .bf16⟩
  | .hbm, ⟨4, _⟩ => ⟨S512x1024, .bf16⟩
  | .hbm, ⟨5, _⟩ => ⟨S1024x512, .f32⟩
  | .hbm, ⟨6, _⟩ => ⟨S512x16, .f32⟩
  | .hbm, ⟨7, _⟩ => ⟨S1024x16, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x16, .f32⟩
  | .hbm, ⟨12, _⟩ => ⟨S1024x16, .f32⟩
  | .hbm, ⟨13, _⟩ => ⟨S1024x16, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x16, .f32⟩
  | .hbm, ⟨18, _⟩ => ⟨S1024x16, .f32⟩
  | .hbm, ⟨19, _⟩ => ⟨S512x1024, .f32⟩
  | .hbm, ⟨20, _⟩ => ⟨S1024x1024, .f32⟩
  | .hbm, ⟨21, _⟩ => ⟨S16x512x1024, .f32⟩
  | .hbm, ⟨22, _⟩ => ⟨S1024x16x1024, .f32⟩
  | .hbm, ⟨23, _⟩ => ⟨S16, .i32⟩
  | .hbm, ⟨24, _⟩ => ⟨S1x16, .i32⟩
  | .hbm, ⟨25, _⟩ => ⟨S1024x16, .i32⟩
  | .hbm, ⟨26, _⟩ => ⟨S1024x16, .i32⟩
  | .hbm, ⟨27, _⟩ => ⟨S1024x16, .i1⟩
  | .hbm, ⟨28, _⟩ => ⟨S1024x16x1, .i1⟩
  | .hbm, ⟨29, _⟩ => ⟨S1024x16x1, .f32⟩
  | .hbm, ⟨30, _⟩ => ⟨S1024x16x1024, .f32⟩
  | .hbm, ⟨31, _⟩ => ⟨S1024x16x1024, .f32⟩
  | .hbm, ⟨32, _⟩ => ⟨S_, .f32⟩
  | .hbm, ⟨33, _⟩ => ⟨S_, .f32⟩
  | .hbm, ⟨34, _⟩ => ⟨S1024x16x1024, .i1⟩
  | .hbm, ⟨35, _⟩ => ⟨S1024x16x1024, .f32⟩
  | .hbm, ⟨36, _⟩ => ⟨S1024x16x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.Ring.lean ====
/-
# The ring of four devices: contents, cells, schedule

The kernel on device `c` computes its own contribution to the result, copies it into slot 0 of its
four-slot communication buffer and then, three times, sends slot `h` to slot `h + 1` of the next device
and adds what arrived to its result. Before the first copy it tells the device before it that its slots
exist, and waits for the device after it to say so.

This module names those contents (`own`, `V0`, … `outAt`), the seven semaphore cells of a device (the
barrier, three send, three receive), what is handed over at each cell (`pay`), and the schedule
`ringRd` of the rounds library: one round with one duty per cell.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost algebra: the pipeline's cells beside the ring's. -/
abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (m : (ℓ : Loc nD τ sig) → Buf (Elt F) ℓ) (ρ : Dev nD → PrngReg)

/-- The memory at launch: any contents, all counters zero. -/
def mem₀ : MemSt nD τ sig (Elt F) := ⟨m, fun _ => 0, ρ⟩

/-! ## Neighbours -/

set_option backward.proofsInPublic true in
/-- The next device of the ring. -/
def nxt (c : Dev nD) : Dev nD := ⟨(c.val + 1) % 4, Nat.mod_lt _ (by decide)⟩
set_option backward.proofsInPublic true in
/-- The device before. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The signal goes to the device before, every copy to the device after. -/
theorem dev1_prv (c : Dev nD) : (⟨k0_dev1 c, k0_dev1_lt c⟩ : Dev nD) = prv c := Fin.ext (k0_dev1_eq c)
theorem dev2_nxt (c : Dev nD) : (⟨k0_dev2 c, k0_dev2_lt c⟩ : Dev nD) = nxt c := Fin.ext (k0_dev2_eq c)
theorem dev3_nxt (c : Dev nD) : (⟨k0_dev3 c, k0_dev3_lt c⟩ : Dev nD) = nxt c := Fin.ext (k0_dev3_eq c)
theorem dev4_nxt (c : Dev nD) : (⟨k0_dev4 c, k0_dev4_lt c⟩ : Dev nD) = nxt c := Fin.ext (k0_dev4_eq c)

/-- One step around the ring, as a permutation of the devices. -/
def turn : Dev nD ≃ Dev nD := ⟨nxt, prv, prv_nxt, nxt_prv⟩

/-! ## Buffers and slots -/

abbrev xM : Memref sig .tc .vmem S1024x512 .bf16 := Memref.whole cc0_stg0_0
abbrev rwM : Memref sig .tc .vmem S512x16 .bf16 := Memref.whole cc0_stg1_0
abbrev ixM : Memref sig .tc .vmem S1024x1 .i32 := Memref.whole cc0_stg2_0
abbrev ewM : Memref sig .tc .vmem S4x512x1024 .bf16 := Memref.whole cc0_stg3_0
abbrev swM : Memref sig .tc .vmem S512x1024 .bf16 := Memref.whole cc0_stg4_0
abbrev oM : Memref sig .tc .vmem S1024x1024 .f32 := Memref.whole cc0_stg5_0
abbrev cM : Memref sig .tc .vmem S4x1024x1024 .bf16 := Memref.whole cc0_scratch0

/-- The rectangles of the four slots of the communication buffer. -/
abbrev rc0 : Rect S4x1024x1024 := Rect.unit (s := S4x1024x1024) ![0, 0, 0] S1x1024x1024.size inb_S4x1024x1024_S1x1024x1024_0_0_0
abbrev rc1 : Rect S4x1024x1024 := Rect.unit (s := S4x1024x1024) ![1, 0, 0] S1x1024x1024.size inb_S4x1024x1024_S1x1024x1024_1_0_0
abbrev rc2 : Rect S4x1024x1024 := Rect.unit (s := S4x1024x1024) ![2, 0, 0] S1x1024x1024.size inb_S4x1024x1024_S1x1024x1024_2_0_0
abbrev rc3 : Rect S4x1024x1024 := Rect.unit (s := S4x1024x1024) ![3, 0, 0] S1x1024x1024.size inb_S4x1024x1024_S1x1024x1024_3_0_0

/-- The four slots. -/
abbrev sl0 : Memref sig .tc .vmem S1x1024x1024 .bf16 := cM.slice rc0 (fun _ => rfl)
abbrev sl1 : Memref sig .tc .vmem S1x1024x1024 .bf16 := cM.slice rc1 (fun _ => rfl)
abbrev sl2 : Memref sig .tc .vmem S1x1024x1024 .bf16 := cM.slice rc2 (fun _ => rfl)
abbrev sl3 : Memref sig .tc .vmem S1x1024x1024 .bf16 := cM.slice rc3 (fun _ => rfl)

/-- A slot without its leading unit axis: what the copies name. -/
abbrev sq (M : Memref sig .tc .vmem S1x1024x1024 .bf16) : Memref sig .tc .vmem S1024x1024 .bf16 :=
  M.squeeze S1024x1024 squeezes_S1x1024x1024_S1024x1024

/-! ## Semaphores and cells -/

/-- The runtime's barrier semaphore. -/
abbrev barS : Sem sig := (SemArray.scalar (sig.barrier 0 rfl) : Sems sig S_).sem
abbrev snd0 : DmaSem sig := ((cc0_scratch1.slice (Rect.unit (s := S3) ![0] S1.size inb_S3_S1_0)).squeeze S_ squeezes_S1_S_).sem
abbrev snd1 : DmaSem sig := ((cc0_scratch1.slice (Rect.unit (s := S3) ![1] S1.size inb_S3_S1_1)).squeeze S_ squeezes_S1_S_).sem
abbrev snd2 : DmaSem sig := ((cc0_scratch1.slice (Rect.unit (s := S3) ![2] S1.size inb_S3_S1_2)).squeeze S_ squeezes_S1_S_).sem
abbrev rcv0 : DmaSem sig := ((cc0_scratch2.slice (Rect.unit (s := S3) ![0] S1.size inb_S3_S1_0)).squeeze S_ squeezes_S1_S_).sem
abbrev rcv1 : DmaSem sig := ((cc0_scratch2.slice (Rect.unit (s := S3) ![1] S1.size inb_S3_S1_1)).squeeze S_ squeezes_S1_S_).sem
abbrev rcv2 : DmaSem sig := ((cc0_scratch2.slice (Rect.unit (s := S3) ![2] S1.size inb_S3_S1_2)).squeeze S_ squeezes_S1_S_).sem

/-- The seven semaphores of the protocol: barrier, three send, three receive. -/
abbrev csem : Fin 7 → SemLoc sig
  | 0 => .reg barS | 1 => .dma snd0 | 2 => .dma snd1 | 3 => .dma snd2 | 4 => .dma rcv0 | 5 => .dma rcv1 | 6 => .dma rcv2
/-- The six of them that are the kernel's own scratch. -/
abbrev osem : Fin 6 → SemLoc sig
  | 0 => .dma snd0 | 1 => .dma snd1 | 2 => .dma snd2 | 3 => .dma rcv0 | 4 => .dma rcv1 | 5 => .dma rcv2
abbrev kcell (ck : Dev nD × Fin 7) : GSem nD τ sig := ((ck.1 : Thread nD τ), csem ck.2)

/-- Which of the seven a semaphore is, if any. -/
def idx (s : SemLoc sig) : Option (Fin 7) :=
  if s = csem 0 then some 0 else if s = csem 1 then some 1 else if s = csem 2 then some 2 else if s = csem 3 then some 3
  else if s = csem 4 then some 4 else if s = csem 5 then some 5 else if s = csem 6 then some 6 else none
theorem idx_csem : ∀ k : Fin 7, idx (csem k) = some k := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  have h2 : csem k = csem k' := congrArg Prod.snd h
  have h3 : k = k' := Option.some.inj (by rw [← idx_csem k, ← idx_csem k', h2])
  rw [h1, h3]

/-- The credit of one copy of a slot. -/
abbrev N : ℕ := (sq sl1).view.dmaCredit
theorem N_pos : 0 < N := View.dmaCredit_pos _ (by decide)

/-! ## Contents -/

abbrev xSt (c : Dev nD) : (cc0_stg0_0 : Ref sig .tc).ty.Contents (Elt F) :=
  (win0_0.blk (0 : Fin 1)).view.read (Elt F) ((mem₀ m ρ).mem ((c : Thread nD τ).loc main_arg0))
abbrev rwSt (c : Dev nD) : (cc0_stg1_0 : Ref sig .tc).ty.Contents (Elt F) :=
  (win0_1.blk (0 : Fin 1)).view.read (Elt F) ((mem₀ m ρ).mem ((c : Thread nD τ).loc main_arg1))
abbrev ixSt (c : Dev nD) : (cc0_stg2_0 : Ref sig .tc).ty.Contents (Elt F) :=
  (win0_2.blk (0 : Fin 1)).view.read (Elt F) ((mem₀ m ρ).mem ((c : Thread nD τ).loc main_arg2))
abbrev ewSt (c : Dev nD) : (cc0_stg3_0 : Ref sig .tc).ty.Contents (Elt F) :=
  (win0_3.blk (0 : Fin 1)).view.read (Elt F) ((mem₀ m ρ).mem ((c : Thread nD τ).loc main_arg3))
abbrev swSt (c : Dev nD) : (cc0_stg4_0 : Ref sig .tc).ty.Contents (Elt F) :=
  (win0_4.blk (0 : Fin 1)).view.read (Elt F) ((mem₀ m ρ).mem ((c : Thread nD τ).loc main_arg4))

/-- The number of the first expert on device `c`, as the kernel computes it. -/
def baseW (c : Dev nD) : BitVec 32 := Scalar.muli (Scalar.remsi (Scalar.divsi (Dev.word c) 1#32) 4#32) 4#32

/-- The rows of the tokens and of the result that device `c` adds the shared expert to. -/
abbrev rx (c : Dev nD) : Rect S1024x512 := Rect.unit (s := S1024x512) (k0_off1 c) S256x512.size (k0_off1_inb c)
abbrev ro (c : Dev nD) : Rect S1024x1024 := Rect.unit (s := S1024x1024) (k0_off2 c) S256x1024.size (k0_off2_inb c)
/-- Expert `e` of the four on a device. -/
abbrev re0 : Rect S4x512x1024 := Rect.unit (s := S4x512x1024) ![0, 0, 0] S1x512x1024.size inb_S4x512x1024_S1x512x1024_0_0_0
abbrev re1 : Rect S4x512x1024 := Rect.unit (s := S4x512x1024) ![1, 0, 0] S1x512x1024.size inb_S4x512x1024_S1x512x1024_1_0_0
abbrev re2 : Rect S4x512x1024 := Rect.unit (s := S4x512x1024) ![2, 0, 0] S1x512x1024.size inb_S4x512x1024_S1x512x1024_2_0_0
abbrev re3 : Rect S4x512x1024 := Rect.unit (s := S4x512x1024) ![3, 0, 0] S1x512x1024.size inb_S4x512x1024_S1x512x1024_3_0_0

/-- The routed part of device `c`: its four experts, each on the masked tokens, summed. -/
def accOf (w : BitVec 32) (x : Vec F S1024x512 .bf16) (rw : Vec F S512x16 .bf16) (ix : Vec F S1024x1 .i32)
    (e0 e1 e2 e3 : Vec F S1x512x1024 .bf16) : FVec F S1024x1024 .f32 :=
  k0_pay8 (k0_pay6 (k0_pay2 x) (k0_pay3 ix) (k0_pay4 x rw ix) w e0 e1 e2)
    (k0_pay7 (k0_pay2 x) (k0_pay3 ix) (k0_pay4 x rw ix) w) e3

def acc (c : Dev nD) : FVec F S1024x1024 .f32 :=
  accOf (baseW c) (xSt m ρ c) (rwSt m ρ c) (ixSt m ρ c)
    (ewM.view.readAt (Elt F) re0.toLoadRect (ewSt m ρ c)) (ewM.view.readAt (Elt F) re1.toLoadRect (ewSt m ρ c))
    (ewM.view.readAt (Elt F) re2.toLoadRect (ewSt m ρ c)) (ewM.view.readAt (Elt F) re3.toLoadRect (ewSt m ρ c))

/-- Device `c`'s own contribution: the routed part, the shared expert added on its rows. -/
def own (c : Dev nD) : (cc0_stg5_0 : Ref sig .tc).ty.Contents (Elt F) :=
  (oM.access (ro c) : View sig .tc _ _ _).write (Elt F) (acc m ρ c)
    (k0_pay9 (xM.view.readAt (Elt F) (rx c).toLoadRect (xSt m ρ c)) (swSt m ρ c)
      (oM.view.readAt (Elt F) (ro c).toLoadRect (acc m ρ c))) Finset.univ

/-- What slot 0 holds of device `c`: its contribution, as it is sent. -/
def V0 (c : Dev nD) : Vec F S1x1024x1024 .bf16 := k0_pay10 (own m ρ c)
/-- Slot `k` holds what the device `k` steps before put into its slot 0. -/
def V1 (c : Dev nD) : Vec F S1x1024x1024 .bf16 := V0 m ρ (prv c)
def V2 (c : Dev nD) : Vec F S1x1024x1024 .bf16 := V1 m ρ (prv c)
def V3 (c : Dev nD) : Vec F S1x1024x1024 .bf16 := V2 m ρ (prv c)

/-- The result buffer after the first, the second and the third addition. -/
def out1 (c : Dev nD) : FVec F S1024x1024 .f32 := k0_pay11 (own m ρ c) (V1 m ρ c)
def out2 (c : Dev nD) : FVec F S1024x1024 .f32 := k0_pay14 (k0_pay12 (out1 m ρ c)) (k0_pay13 (V2 m ρ c))
def outAt (c : Dev nD) : (cc0_stg5_0 : Ref sig .tc).ty.Contents (Elt F) := k0_pay1 (out2 m ρ c) (V3 m ρ c)

/-! ## What is handed over -/

/-- A slot of device `c` held whole at contents `w`. -/
abbrev held (c : Dev nD) (M : Memref sig .tc .vmem S1x1024x1024 .bf16) (w : Vec F S1x1024x1024 .bf16) : sProp 𝕄 :=
  owns (Ix := Unit) (Name := ℕ) (U := UU) (Lvl := ℕ) (c : Thread nD τ) M fullShare w
/-- A slot of device `c` held whole at some contents. -/
def room (c : Dev nD) (M : Memref sig .tc .vmem S1x1024x1024 .bf16) : sProp 𝕄 :=
  iprop(∃ f : Buf (Elt F) (M.view.loc (c : Thread nD τ)), M.view.loc (c : Thread nD τ) ↦[M.view.set]{fullShare} f)

omit [FloatOps F] in
instance room_storable (c : Dev nD) (M) : BI.Storable (upEmb : UEmb _ 𝕄) (room (F := F) c M) := by unfold room; infer_instance

/-- What the cell number `k` of device `c` hands its waiter: the barrier, the next device's three landing slots;
    send `h`, the slot sent, back; receive `h`, slot `h + 1` filled. -/
def pay (c : Dev nD) : Option (Fin 7) → sProp 𝕄
  | some 0 => iprop(room (nxt c) sl1 ∗ room (nxt c) sl2 ∗ room (nxt c) sl3)
  | some 1 => held c sl0 (V0 m ρ c)
  | some 2 => held c sl1 (V1 m ρ c)
  | some 3 => held c sl2 (V2 m ρ c)
  | some 4 => held c sl1 (V1 m ρ c)
  | some 5 => held c sl2 (V2 m ρ c)
  | some 6 => held c sl3 (V3 m ρ c)
  | none => iprop(emp)

instance pay_storable (c : Dev nD) (o : Option (Fin 7)) : BI.Storable (upEmb : UEmb _ 𝕄) (pay m ρ c o) := by
  match o with
  | some 0 => unfold pay; infer_instance
  | some 1 => unfold pay; infer_instance
  | some 2 => unfold pay; infer_instance
  | some 3 => unfold pay; infer_instance
  | some 4 => unfold pay; infer_instance
  | some 5 => unfold pay; infer_instance
  | some 6 => unfold pay; infer_instance
  | none => unfold pay; infer_instance

/-- The amount of a cell: one unit for the barrier, a slot's credit for a copy's two. -/
def amt (o : Option (Fin 7)) : ℕ := if o = some 0 then 1 else N

/-- One round, one duty per cell of the ring. -/
def ringRd : Rounds.Schedule (GSem nD τ sig) Unit 𝕄 where
  duties g r := if r = 0 ∧ g.1.2 = .tc ∧ (idx g.2).isSome then {()} else ∅
  unitless _ := False
  amount g _ _ := amt (idx g.2)
  payload g _ _ := pay m ρ g.1.1 (idx g.2)
  amount_pos g _ _ _ := by
    unfold amt; split
    · exact Nat.one_pos
    · exact N_pos

instance ringRd_payload_storable (g : GSem nD τ sig) (r : ℕ) (d : Unit) :
    BI.Storable (upEmb : UEmb _ 𝕄) ((ringRd m ρ).payload g r d) := pay_storable m ρ g.1.1 (idx g.2)

section Sched
variable (c : Dev nD) (k : Fin 7)

theorem duties_at : (ringRd m ρ).duties (kcell (c, k)) 0 = {()} := by
  dsimp only [ringRd]; rw [idx_csem]; exact if_pos ⟨rfl, rfl, rfl⟩
theorem mem_duties : () ∈ (ringRd m ρ).duties (kcell (c, k)) 0 := by rw [duties_at]; exact Finset.mem_singleton_self _
theorem duties_later (g : GSem nD τ sig) : ∀ r, 1 ≤ r → (ringRd m ρ).duties g r = ∅ :=
  fun r hr => by dsimp only [ringRd]; exact if_neg fun h => by omega
theorem amount_at (d : Unit) : (ringRd m ρ).amount (kcell (c, k)) 0 d = amt (some k) := by
  dsimp only [ringRd]; rw [idx_csem]
theorem payload_at (d : Unit) : (ringRd m ρ).payload (kcell (c, k)) 0 d = pay m ρ c (some k) := by
  dsimp only [ringRd]; rw [idx_csem]
theorem expect_at : (ringRd m ρ).expect (kcell (c, k)) 0 = amt (some k) := by
  unfold Schedule.expect Schedule.amountOf; rw [duties_at, Finset.sum_singleton, amount_at]
theorem rest_at : bigSep ((ringRd m ρ).duties (kcell (c, k)) 0 \ ∅) (fun d => (ringRd m ρ).payload (kcell (c, k)) 0 d)
    = pay m ρ c (some k) := by
  rw [Finset.sdiff_empty, duties_at, bigSep_singleton, payload_at]

end Sched

/-! ## What a device owes, and the order of the waits -/

/-- What device `c` owes after its first `3 - j` copies: the receive cells of the next device still to be paid. -/
def owe3 (c : Dev nD) : CellTallies nD τ sig Unit := tallyAt (kcell (nxt c, 6)) () N
def owe2 (c : Dev nD) : CellTallies nD τ sig Unit := owe3 c + tallyAt (kcell (nxt c, 5)) () N
def owe1 (c : Dev nD) : CellTallies nD τ sig Unit := owe2 c + tallyAt (kcell (nxt c, 4)) () N
/-- At launch it owes, besides, one unit to the barrier of the device before. -/
def owe0 (c : Dev nD) : CellTallies nD τ sig Unit := owe1 c + tallyAt (kcell (prv c, 0)) () 1

def L (g : GSem nD τ sig) : Finset Unit := if g.1.2 = .tc then {()} else ∅
/-- The level of a semaphore: barrier 1, receive `h` at `h + 2`, the others 0. -/
def lvS (s : SemLoc sig) : ℕ := match idx s with | some 0 => 1 | some 4 => 2 | some 5 => 3 | some 6 => 4 | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- All that `O` owes is owed to TensorCore cells above level `l`. -/
def Above (l : ℕ) (O : CellTallies nD τ sig Unit) : Prop := ∀ g u, 0 < O g u → g.1.2 = .tc ∧ l < lvS g.2

theorem above_zero (l : ℕ) : Above l 0 := fun g u h => absurd h (Nat.lt_irrefl 0)
theorem above_add {l : ℕ} {A B : CellTallies nD τ sig Unit} (hA : Above l A) (hB : Above l B) : Above l (A + B) := fun g u h => by
  rw [Pi.add_apply, Finsupp.add_apply] at h
  rcases Nat.eq_zero_or_pos (A g u) with h0 | h0
  · exact hB g u (by omega)
  · exact hA g u h0
theorem above_tally {l : ℕ} (c : Dev nD) (k : Fin 7) (n : ℕ) (h : l < lvS (csem k)) : Above l (tallyAt (kcell (c, k)) () n) := fun g u hg => by
  rw [tallyAt_apply] at hg
  by_cases h' : g = kcell (c, k) ∧ u = ()
  · rw [h'.1]; exact ⟨rfl, h⟩
  · rw [if_neg h'] at hg; exact absurd hg (Nat.lt_irrefl 0)

theorem above3 {l : ℕ} (h : l < 4) (c : Dev nD) : Above l (owe3 c) := above_tally _ 6 _ h
theorem above2 {l : ℕ} (h : l < 3) (c : Dev nD) : Above l (owe2 c) := above_add (above3 (by omega) c) (above_tally _ 5 _ h)
theorem above1 {l : ℕ} (h : l < 2) (c : Dev nD) : Above l (owe1 c) := above_add (above2 (by omega) c) (above_tally _ 4 _ h)
theorem above0 {l : ℕ} (h : l < 1) (c : Dev nD) : Above l (owe0 c) := above_add (above1 (by omega) c) (above_tally _ 0 _ h)

omit [FloatOps F] in
/-- A wait is allowed on a semaphore below everything its device still owes. -/
theorem mayWait (c : Dev nD) (s : SemLoc sig) (O : CellTallies nD τ sig Unit) (h : Above (lvS s) O) :
    (levAts L lv : sProp 𝕄) ⊢ MayWait (c : Thread nD τ) s () O :=
  MayOwe.of_cut (L := L) (lev := lv) (lvS s) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

/-! ## The whole buffer as its four slots -/

/-- The element sets of the four slots. -/
def slotSet (b : Fin 4) : Finset S4x1024x1024.Idx := match b with | 0 => rc0.set | 1 => rc1.set | 2 => rc2.set | 3 => rc3.set

/-- The four rectangles as one family. -/
def slotRect (b : Fin 4) : Rect S4x1024x1024 := Rect.unit (s := S4x1024x1024) ![b.val, 0, 0] S1x1024x1024.size (by revert b; decide)
theorem slotSet_eq (b : Fin 4) : slotSet b = (slotRect b).set := by fin_cases b <;> rfl

theorem slot_disjoint (b b' : Fin 4) (h : b ≠ b') : Disjoint (slotSet b) (slotSet b') := by
  rw [slotSet_eq, slotSet_eq]
  exact Ring.lead_disjoint (s := S4x1024x1024) (0 : Fin 3) 1 (fun b : Fin 4 => ![b.val, 0, 0]) S1x1024x1024.size _
    (fun b => by simp) rfl b b' h
theorem slot_cover : Finset.univ.biUnion slotSet = Finset.univ := by
  rw [show slotSet = fun b => (slotRect b).set from funext slotSet_eq]
  exact Ring.lead_cover (s := S4x1024x1024) (0 : Fin 3) 1 (fun b : Fin 4 => ![b.val, 0, 0]) S1x1024x1024.size _
    (fun b => by simp) (fun b a ha => by fin_cases a <;> first | exact absurd rfl ha | rfl) rfl
    (fun a ha => by fin_cases a <;> first | exact absurd rfl ha | rfl) rfl

end Cert.Ring

end
-- ==== Proof.Body.lean ====
/-
# The kernel's body on one device

`sound_body` runs the body once, at a symbolic device `c`: from the staged arguments, the four slots and the
ring's ghost state it reaches the staged arguments unchanged, the result buffer at `outAt c`, and the seven
cells closed at zero.
-/
module

public import proofs.«01_k».proof.Proof.Ring

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Ghost state -/

/-- The invariants device `c` opens: its own seven cells, the barrier of the device before, and the three
    receive cells of the device after. -/
def invs (K : Dev nD × Fin 7 → ℕ) (c : Dev nD) : sProp 𝕄 :=
  iprop((bigSep Finset.univ fun k : Fin 7 => cellInv ER (ringRd m ρ) (K (c, k)) (kcell (c, k)))
    ∗ cellInv ER (ringRd m ρ) (K (prv c, 0)) (kcell (prv c, 0))
    ∗ cellInv ER (ringRd m ρ) (K (nxt c, 4)) (kcell (nxt c, 4))
    ∗ cellInv ER (ringRd m ρ) (K (nxt c, 5)) (kcell (nxt c, 5))
    ∗ cellInv ER (ringRd m ρ) (K (nxt c, 6)) (kcell (nxt c, 6)))

instance invs_persistent (K : Dev nD × Fin 7 → ℕ) (c : Dev nD) : BI.Persistent (invs m ρ K c) := by unfold invs; infer_instance

/-- The round-0 marks of the cells device `c` pays. -/
def marks (c : Dev nD) : sProp 𝕄 :=
  iprop(reached ER (kcell (prv c, 0)) 0 ∗ reached ER (kcell (c, 1)) 0 ∗ reached ER (kcell (c, 2)) 0 ∗ reached ER (kcell (c, 3)) 0
    ∗ reached ER (kcell (nxt c, 4)) 0 ∗ reached ER (kcell (nxt c, 5)) 0 ∗ reached ER (kcell (nxt c, 6)) 0)

instance marks_persistent (c : Dev nD) : BI.Persistent (marks (F := F) c) := by unfold marks; infer_instance

/-- Its positions in its own seven cells. -/
def posns (c : Dev nD) : sProp 𝕄 := bigSep Finset.univ fun k : Fin 7 => atPos ER (kcell (c, k)) 0 ∅ 0

/-- The tokens of the duties device `c` pays. -/
def payToks (c : Dev nD) : sProp 𝕄 :=
  iprop(dutyTok ER (kcell (prv c, 0)) 0 () ∗ dutyTok ER (kcell (c, 1)) 0 () ∗ dutyTok ER (kcell (c, 2)) 0 () ∗ dutyTok ER (kcell (c, 3)) 0 ()
    ∗ dutyTok ER (kcell (nxt c, 4)) 0 () ∗ dutyTok ER (kcell (nxt c, 5)) 0 () ∗ dutyTok ER (kcell (nxt c, 6)) 0 ())

def ghost (K : Dev nD × Fin 7 → ℕ) (c : Dev nD) : sProp 𝕄 :=
  iprop(invs m ρ K c ∗ marks c ∗ posns c ∗ payToks c)

/-- The credit device `c` waits with on its barrier and its three receive cells. -/
def credits (c : Dev nD) : sProp 𝕄 :=
  iprop(cred (tallyAt (kcell (c, 0)) () 1) ∗ cred (tallyAt (kcell (c, 4)) () N) ∗ cred (tallyAt (kcell (c, 5)) () N) ∗ cred (tallyAt (kcell (c, 6)) () N))

def start (c : Dev nD) : sProp 𝕄 := iprop((∃ K, ghost m ρ K c) ∗ credits c ∗ levAts L lv)

/-- Before the body: that, and the communication buffer. -/
def Φ₀ (c : Dev nD) : sProp 𝕄 :=
  iprop(start m ρ c ∗ ∃ f : Buf (Elt F) ((c : Thread nD τ).loc cc0_scratch0), ((c : Thread nD τ).loc cc0_scratch0) ↦{fullShare} f)
/-- After it: the communication buffer, and the seven counters at zero. -/
def Φ₁ (c : Dev nD) : sProp 𝕄 :=
  iprop((∃ f : Buf (Elt F) ((c : Thread nD τ).loc cc0_scratch0), ((c : Thread nD τ).loc cc0_scratch0) ↦{fullShare} f)
    ∗ semVal (kcell (c, 0)) 0 ∗ semVal (kcell (c, 1)) 0 ∗ semVal (kcell (c, 2)) 0 ∗ semVal (kcell (c, 3)) 0
    ∗ semVal (kcell (c, 4)) 0 ∗ semVal (kcell (c, 5)) 0 ∗ semVal (kcell (c, 6)) 0)

def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => xSt m ρ c
    | ⟨1, _⟩ => rwSt m ρ c
    | ⟨2, _⟩ => ixSt m ρ c
    | ⟨3, _⟩ => ewSt m ρ c
    | ⟨4, _⟩ => swSt m ρ c
    | ⟨5, _⟩ => outAt m ρ c
  Φ t := match t with
    | ⟨0, _⟩ => Φ₀ m ρ c
    | ⟨_ + 1, _⟩ => Φ₁ c
  q _ := fullShare
  owed t := match t with
    | ⟨0, _⟩ => owe0 c
    | ⟨_ + 1, _⟩ => 0

abbrev 𝒱₀ : Variants := Variants.none

/-! ## Slots -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem slotSet_view (c : Dev nD) : sl0.view.set = slotSet 0 ∧ sl1.view.set = slotSet 1 ∧ sl2.view.set = slotSet 2 ∧ sl3.view.set = slotSet 3 :=
  ⟨View.set_slice_whole cc0_scratch0 rc0, View.set_slice_whole cc0_scratch0 rc1, View.set_slice_whole cc0_scratch0 rc2, View.set_slice_whole cc0_scratch0 rc3⟩

omit [FloatOps F] in
/-- The communication buffer held whole is its four slots held. -/
theorem slots_split (c : Dev nD) (f : Buf (Elt F) ((c : Thread nD τ).loc cc0_scratch0)) :
    (((c : Thread nD τ).loc cc0_scratch0) ↦{fullShare} f : sProp 𝕄) ⊢ iprop(room c sl0 ∗ room c sl1 ∗ room c sl2 ∗ room c sl3) := by
  obtain ⟨h0, h1, h2, h3⟩ := slotSet_view c
  have h := Ring.pointsTo_blocks (Ix := Unit) (Name := ℕ) (U := UU) (Lvl := ℕ) (q := fullShare) (ℓ := (c : Thread nD τ).loc cc0_scratch0) slotSet slot_disjoint slot_cover f
  rw [h, bigSep_fin4]
  unfold room
  rw [h0, h1, h2, h3]
  iintro ⟨H0, H1, H2, H3⟩
  isplitl [H0]; · iexists f; iexact H0
  isplitl [H1]; · iexists f; iexact H1
  isplitl [H2]; · iexists f; iexact H2
  iexists f; iexact H3

omit [FloatOps F] in
/-- And back. -/
theorem slots_join (c : Dev nD) :
    iprop(room c sl0 ∗ room c sl1 ∗ room c sl2 ∗ room c sl3)
      ⊢ (iprop(∃ f : Buf (Elt F) ((c : Thread nD τ).loc cc0_scratch0), ((c : Thread nD τ).loc cc0_scratch0) ↦{fullShare} f) : sProp 𝕄) := by
  obtain ⟨h0, h1, h2, h3⟩ := slotSet_view c
  unfold room
  rw [h0, h1, h2, h3]
  iintro ⟨⟨%f0, H0⟩, H1, H2, H3⟩
  iapply (Ring.pointsTo_blocks_join_exists (Ix := Unit) (Name := ℕ) (U := UU) (Lvl := ℕ) (q := fullShare) (ℓ := (c : Thread nD τ).loc cc0_scratch0) slotSet slot_disjoint slot_cover f0)
  rw [bigSep_fin4]
  isplitl [H0]; · iexists f0; iexact H0
  isplitl [H1]; · iexact H1
  isplitl [H2]; · iexact H2
  iexact H3

omit [FloatOps F] in
theorem room_of_held (c : Dev nD) (M) (w) : (held (F := F) c M w : sProp 𝕄) ⊢ room c M := by
  unfold held owns room
  iintro ⟨%f, -, H⟩
  iexists f; iexact H

omit [FloatOps F] in
theorem sq_set (M : Memref sig .tc .vmem S1x1024x1024 .bf16) : (sq M).view.set = M.view.set :=
  View.set_reshape (v := M.view) squeezes_S1x1024x1024_S1024x1024.numel_eq

omit [FloatOps F] in
theorem sq_read (M : Memref sig .tc .vmem S1x1024x1024 .bf16) (f : M.view.ty.Contents (Elt F)) (y : S1024x1024.Idx) :
    (sq M).view.read (Elt F) f y = M.view.read (Elt F) f (Shape.reshapeEquiv squeezes_S1x1024x1024_S1024x1024.numel_eq y) := by
  show (M.view.reshape S1024x1024 squeezes_S1x1024x1024_S1024x1024.numel_eq).read (Elt F) f y = _
  unfold View.read
  rw [View.emb_reshape]
  rfl

omit [FloatOps F] in
/-- A slot filled with what another holds reads what the other reads. -/
theorem sq_read_copy (src dst : Memref sig .tc .vmem S1x1024x1024 .bf16) (fs : src.view.ty.Contents (Elt F)) (fd : dst.view.ty.Contents (Elt F)) :
    dst.view.read (Elt F) ((sq dst).view.write (Elt F) fd ((sq src).view.read (Elt F) fs) Finset.univ) = src.view.read (Elt F) fs := by
  have hw : (sq dst).view.read (Elt F) ((sq dst).view.write (Elt F) fd ((sq src).view.read (Elt F) fs) Finset.univ) = (sq src).view.read (Elt F) fs :=
    View.read_write_univ (v := (sq dst).view) fd _
  funext y
  have hy := congrFun hw ((Shape.reshapeEquiv squeezes_S1x1024x1024_S1024x1024.numel_eq).symm y)
  rw [sq_read, sq_read, Equiv.apply_symm_apply] at hy
  exact hy

/-! ## Whole reads and writes -/

omit [FloatOps F] in
theorem hz : (![0, 0] : Fin 2 → Nat) = fun _ => 0 := funext fun a => by fin_cases a <;> rfl

abbrev rX : Rect S1024x512 := Rect.unit (s := S1024x512) ![0, 0] S1024x512.size inb_S1024x512_S1024x512_0_0
abbrev rRw : Rect S512x16 := Rect.unit (s := S512x16) ![0, 0] S512x16.size inb_S512x16_S512x16_0_0
abbrev rIx : Rect S1024x1 := Rect.unit (s := S1024x1) ![0, 0] S1024x1.size inb_S1024x1_S1024x1_0_0
abbrev rSw : Rect S512x1024 := Rect.unit (s := S512x1024) ![0, 0] S512x1024.size inb_S512x1024_S512x1024_0_0
abbrev rO : Rect S1024x1024 := Rect.unit (s := S1024x1024) ![0, 0] S1024x1024.size inb_S1024x1024_S1024x1024_0_0

omit [FloatOps F] in
theorem read_x (f : (cc0_stg0_0 : Ref sig .tc).ty.Contents (Elt F)) : xM.view.readAt (Elt F) rX.toLoadRect f = f :=
  Memref.readAt_unit_zero (Elt F) cc0_stg0_0 hz _ f
omit [FloatOps F] in
theorem read_rw (f : (cc0_stg1_0 : Ref sig .tc).ty.Contents (Elt F)) : rwM.view.readAt (Elt F) rRw.toLoadRect f = f :=
  Memref.readAt_unit_zero (Elt F) cc0_stg1_0 hz _ f
omit [FloatOps F] in
theorem read_ix (f : (cc0_stg2_0 : Ref sig .tc).ty.Contents (Elt F)) : ixM.view.readAt (Elt F) rIx.toLoadRect f = f :=
  Memref.readAt_unit_zero (Elt F) cc0_stg2_0 hz _ f
omit [FloatOps F] in
theorem read_sw (f : (cc0_stg4_0 : Ref sig .tc).ty.Contents (Elt F)) : swM.view.readAt (Elt F) rSw.toLoadRect f = f :=
  Memref.readAt_unit_zero (Elt F) cc0_stg4_0 hz _ f
omit [FloatOps F] in
theorem read_out (f : (cc0_stg5_0 : Ref sig .tc).ty.Contents (Elt F)) : oM.view.readAt (Elt F) rO.toLoadRect f = f :=
  Memref.readAt_unit_zero (Elt F) cc0_stg5_0 hz _ f
omit [FloatOps F] in
theorem write_out (f w : (cc0_stg5_0 : Ref sig .tc).ty.Contents (Elt F)) :
    (oM.access rO : View sig .tc _ _ _).write (Elt F) f w Finset.univ = w :=
  Memref.write_access_unit_zero_univ (Elt F) cc0_stg5_0 hz _ f w

/-! ## The protocol's steps -/

section Steps

variable (K : Dev nD × Fin 7 → ℕ) (c : Dev nD)

/-- One copy to the next device: from slot `src` held at `w` and room at slot `dst` of the next device, paying the
    send cell `ks` with the source and the receive cell `kr` with the destination filled. -/
theorem wp_hop {α : Type} {Q : α → sProp 𝕄} {n : Dev nD} (hn : n = nxt c) (src dst : Memref sig .tc .vmem S1x1024x1024 .bf16) (w : Vec F S1x1024x1024 .bf16)
    (ks kr : Fin 7) (sS sR : DmaSem sig) (hsS : csem ks = .dma sS) (hsR : csem kr = .dma sR)
    (hNs : amt (some ks) = N) (hNr : amt (some kr) = N)
    (hN : (sq dst).view.amount (.dma sR : SemLoc sig) = N)
    (hps : pay m ρ c (some ks) = held c src w) (hpr : pay m ρ (nxt c) (some kr) = held (nxt c) dst w)
    {hsc : (sq dst : Memref sig (Dev.tc n : Thread nD τ).2.kind .vmem S1024x1024 .bf16).view.ref.isScScratch = false}
    {hsrc : (sq src).view.WordExact} {hdst : (sq dst).view.WordExact}
    {hsem : DmaTarget.Typed .vmem (.dma sR) (.remote (Dev.tc n : Thread nD τ) (sq dst) (.dma sS) hsc)}
    {k : PUnit → Prog (TpuEff nD τ sig (Elt F) Λ₀ .tc) α} (O : CellTallies nD τ sig Unit) (W : Waits sig Unit) :
    iprop(cellInv ER (ringRd m ρ) (K (c, ks)) (kcell (c, ks)) ∗ cellInv ER (ringRd m ρ) (K (nxt c, kr)) (kcell (nxt c, kr))
        ∗ held c src w ∗ room (nxt c) dst
        ∗ owes (c : Thread nD τ) (O + tallyAt (kcell (nxt c, kr)) () N) W
        ∗ dutyTok ER (kcell (c, ks)) 0 () ∗ reached ER (kcell (c, ks)) 0
        ∗ dutyTok ER (kcell (nxt c, kr)) 0 () ∗ reached ER (kcell (nxt c, kr)) 0)
      ⊢ iprop(((cred (tallyAt (kcell (c, ks)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sq src) (.remote (Dev.tc n : Thread nD τ) (sq dst) (.dma sS) hsc) (.dma sR) hsrc hdst hsem) k) Q) := by
  subst hn
  have e1 : kcell (c, ks) = ((c : Thread nD τ), SemLoc.dma sS) := by unfold kcell; rw [hsS]
  have e2 : kcell (nxt c, kr) = ((nxt c : Thread nD τ), SemLoc.dma sR) := by unfold kcell; rw [hsR]
  have d1 := mem_duties m ρ c ks
  have d2 := mem_duties m ρ (nxt c) kr
  have a1 := (amount_at m ρ c ks ()).trans hNs
  have a2 := (amount_at m ρ (nxt c) kr ()).trans hNr
  have p1 := (payload_at m ρ c ks ()).trans hps
  have p2 := (payload_at m ρ (nxt c) kr ()).trans hpr
  rw [e1, e2]
  rw [e1] at d1 a1 p1
  rw [e2] at d2 a2 p2
  unfold held owns room
  iintro ⟨H1, H2, ⟨%fs, %hfs, Hs⟩, ⟨%fd, Hd⟩, HO, Ht1, Hr1, Ht2, Hr2⟩ Hk
  iapply (Rounds.wp_send_pointsTo 𝒱₀ ER (ringRd m ρ) (c : Thread nD τ) none (c' := (nxt c : Thread nD τ)) (src := sq src) (dst := sq dst) (κ₁ := K (c, ks)) (κ₂ := K (nxt c, kr))
    (r₁ := 0) (r₂ := 0) (d₁ := ()) (d₂ := ()) (fs := fs) (fd := fd) (q := fullShare) d1 d2 () () N hN a1 a2 O rfl (W := W)
    (by
      rw [p1, sq_set]; unfold held owns
      iintro H; iexists fs; isplitr; · (ipureintro; exact hfs)
      iexact H)
    (by
      rw [p2, sq_set]; unfold held owns
      iintro H; iexists _; isplitr
      · ipureintro
        rw [← hfs]; exact sq_read_copy src dst fs fd
      iexact H)) $$ [H1 H2 Hs Hd HO Ht1 Hr1 Ht2 Hr2]
  · isplitl [H1]; · iexact H1
    isplitl [H2]; · iexact H2
    isplitl [Hs]; · rw [sq_set]; iexact Hs
    isplitl [Hd]; · rw [sq_set]; iexact Hd
    isplitl [HO]; · iexact HO
    isplitl [Ht1]; · iexact Ht1
    isplitl [Hr1]; · iexact Hr1
    isplitl [Ht2]; · iexact Ht2
    iexact Hr2
  iexact Hk

/-- One wait of a whole round on a copy's cell, then closing the cell: what is handed over, and the counter at zero. -/
theorem wp_take {α : Type} {Q : α → sProp 𝕄} (kk : Fin 7) (s : DmaSem sig) (hs : csem kk = .dma s) (hNk : amt (some kk) = N)
    (src dst : Memref sig .tc .vmem S1x1024x1024 .bf16)
    (hN : (sq dst).view.dmaCredit = N) {hsrc : (sq src).view.WordExact} {hdst : (sq dst).view.WordExact}
    {k : PUnit → Prog (TpuEff nD τ sig (Elt F) Λ₀ .tc) α} (O : CellTallies nD τ sig Unit) (W : Waits sig Unit)
    (hO : Above (lvS (csem kk)) O) :
    iprop(cellInv ER (ringRd m ρ) (K (c, kk)) (kcell (c, kk)) ∗ levAts L lv ∗ cred (tallyAt (kcell (c, kk)) () N)
        ∗ owes (c : Thread nD τ) O W ∗ atPos ER (kcell (c, kk)) 0 ∅ 0)
      ⊢ iprop(((owes (c : Thread nD τ) O (insert (csem kk, ()) W) ∗ pay m ρ c (some kk) ∗ semVal (kcell (c, kk)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s (sq src) (sq dst) hsrc hdst) k) Q) := by
  have e1 : kcell (c, kk) = ((c : Thread nD τ), SemLoc.dma s) := by unfold kcell; rw [hs]
  have hex := (expect_at m ρ c kk).trans hNk
  have hre := rest_at m ρ c kk
  have hmw := mayWait (F := F) c (csem kk) O hO
  rw [hs] at hmw ⊢
  rw [e1] at hex hre ⊢
  iintro ⟨#HI, #Hlev, Hc, HO, Hat⟩ Hk
  iapply (Rounds.wp_wait_rest_token 𝒱₀ ER (ringRd m ρ) (c : Thread nD τ) none (κ := K (c, kk))
      (wpE_waitDma2_eq 𝒱₀ (c : Thread nD τ) none Set.univ) (Set.mem_univ _) () (O := O) (W := W) (R := 0) (m := 0) (T := ∅)
      (by rw [Nat.zero_add, hex, hN])) $$ [Hc HO Hat]
  · isplitr; · iexact HI
    isplitl [Hc]; · rw [hN]; iexact Hc
    isplitl [HO]; · iexact HO
    isplitr; · iapply hmw; iexact Hlev
    iexact Hat
  iintro ⟨HO, Hat, -, Hpay⟩
  imod (Rounds.cell_close ER (ringRd m ρ) (Set.mem_univ (K (c, kk))) (fun h => h) (R := 0 + 1) (duties_later m ρ ((c : Thread nD τ), SemLoc.dma s))) $$ [Hat] with Hz
  · isplitr; · iexact HI
    iexact Hat
  iapply Hk
  isplitl [HO]; · iexact HO
  isplitl [Hpay]; · ihave Hp := (Entails.of_eq hre) $$ Hpay; iexact Hp
  iexact Hz

/-- Loading a slot held at `w` reads `w`. -/
theorem wp_read_slot {α : Type} {Q : α → sProp 𝕄} (r : Rect S4x1024x1024) (h : ∀ a, r.stride a = 1) (w : r.shape.Idx → Elt F .bf16) {hl : cM.view.LoadsAt r.toLoadRect}
    {k : (r.shape.Idx → Elt F .bf16) → Prog (TpuEff nD τ sig (Elt F) Λ₀ .tc) α} :
    (owns (Ix := Unit) (Name := ℕ) (U := UU) (Lvl := ℕ) (c : Thread nD τ) (cM.slice r h) fullShare w : sProp 𝕄)
      ⊢ iprop((owns (Ix := Unit) (Name := ℕ) (U := UU) (Lvl := ℕ) (c : Thread nD τ) (cM.slice r h) fullShare w
            -∗ wp frame (wpE (defs₀ (F := F)) 𝒱₀ (c : Thread nD τ) none) Set.univ (k w) Q)
          -∗ wp frame (wpE (defs₀ (F := F)) 𝒱₀ (c : Thread nD τ) none) Set.univ (.op (.load cM r.toLoadRect hl) k) Q) := by
  unfold owns
  iintro ⟨%f, %hf, H⟩ Hk
  iapply (wp_load_rect 𝒱₀ (c : Thread nD τ) none Set.univ (m := cM) (r := r) (S := (cM.slice r h).view.set) (f := f) (q := fullShare) subset_rfl) $$ [H]
  · iexact H
  iintro H
  rw [show (cM.access r).read (Elt F) f = w from hf]
  iapply Hk
  iexists f; isplitr; · (ipureintro; exact hf)
  iexact H

/-- Loading a slot held at any contents. -/
theorem wp_read_room {α : Type} {Q : α → sProp 𝕄} (r : Rect S4x1024x1024) (h : ∀ a, r.stride a = 1) {hl : cM.view.LoadsAt r.toLoadRect}
    {k : (r.shape.Idx → Elt F .bf16) → Prog (TpuEff nD τ sig (Elt F) Λ₀ .tc) α} :
    iprop(∃ f : Buf (Elt F) ((cM.slice r h).view.loc (c : Thread nD τ)), (cM.slice r h).view.loc (c : Thread nD τ) ↦[(cM.slice r h).view.set]{fullShare} f)
      ⊢ (iprop((∀ w, (∃ f : Buf (Elt F) ((cM.slice r h).view.loc (c : Thread nD τ)), (cM.slice r h).view.loc (c : Thread nD τ) ↦[(cM.slice r h).view.set]{fullShare} f)
            -∗ wp frame (wpE (defs₀ (F := F)) 𝒱₀ (c : Thread nD τ) none) Set.univ (k w) Q)
          -∗ wp frame (wpE (defs₀ (F := F)) 𝒱₀ (c : Thread nD τ) none) Set.univ (.op (.load cM r.toLoadRect hl) k) Q) : sProp 𝕄) := by
  iintro ⟨%f, H⟩ Hk
  iapply (wp_load_rect 𝒱₀ (c : Thread nD τ) none Set.univ (m := cM) (r := r) (S := (cM.slice r h).view.set) (f := f) (q := fullShare) subset_rfl) $$ [H]
  · iexact H
  iintro H
  iapply Hk
  iexists f
  iexact H

/-- Storing into a slot held at any contents. -/
theorem wp_fill_slot {α : Type} {Q : α → sProp 𝕄} (r : Rect S4x1024x1024) (h : ∀ a, r.stride a = 1) (w : r.shape.Idx → Elt F .bf16)
    {hx : (cM.access r).Stores (Finset.univ : Finset r.shape.Idx)} {hm : (Finset.univ : Finset r.shape.Idx) = Finset.univ ∨ ∀ a, r.stride a = 1}
    {k : PUnit → Prog (TpuEff nD τ sig (Elt F) Λ₀ .tc) α} :
    iprop(∃ f : Buf (Elt F) ((cM.slice r h).view.loc (c : Thread nD τ)), (cM.slice r h).view.loc (c : Thread nD τ) ↦[(cM.slice r h).view.set]{fullShare} f)
      ⊢ (iprop((owns (Ix := Unit) (Name := ℕ) (U := UU) (Lvl := ℕ) (c : Thread nD τ) (cM.slice r h) fullShare w
            -∗ wp frame (wpE (defs₀ (F := F)) 𝒱₀ (c : Thread nD τ) none) Set.univ (k ⟨⟩) Q)
          -∗ wp frame (wpE (defs₀ (F := F)) 𝒱₀ (c : Thread nD τ) none) Set.univ (.op (.store cM r w Finset.univ hx hm) k) Q) : sProp 𝕄) := by
  iintro ⟨%f, H⟩ Hk
  iapply (wp_store 𝒱₀ (c : Thread nD τ) none Set.univ (m := cM) (r := r) (Mk := Finset.univ) (S := (cM.slice r h).view.set) (f := f) subset_rfl) $$ [H]
  · iexact H
  iintro H
  iapply Hk
  unfold owns
  iexists _; isplitr
  · ipureintro; exact View.read_write_univ (v := cM.access r) f w
  iexact H

end Steps

end Cert.Ring

end
-- ==== Proof.Run.lean ====
/-
# The body's run

The body's effects in program order: the entry handshake, the local computation, three hops around the ring,
each followed by the addition of what arrived.
-/
module

public import proofs.«01_k».proof.Proof.Body

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the result's staging buffer holds once the shared expert is added. -/
theorem own_eq (c : Dev nD) :
    (oM.access (ro c) : View sig .tc _ _ _).write (Elt F) (acc m ρ c)
      (k0_pay9 (xM.view.readAt (Elt F) (rx c).toLoadRect (xSt m ρ c)) (swSt m ρ c)
        (oM.view.readAt (Elt F) (ro c).toLoadRect (acc m ρ c))) Finset.univ = own m ρ c := rfl

theorem out1_eq (c : Dev nD) : k0_pay11 (own m ρ c) (V1 m ρ c) = out1 m ρ c := rfl
theorem out2_eq (c : Dev nD) : k0_pay14 (k0_pay12 (out1 m ρ c)) (k0_pay13 (V2 m ρ c)) = out2 m ρ c := rfl
theorem outAt_eq (c : Dev nD) : k0_pay1 (out2 m ρ c) (V3 m ρ c) = outAt m ρ c := rfl

/-- The routed part as the run has computed it. -/
theorem acc_eq (c : Dev nD) :
    k0_pay8 (k0_pay6 (k0_pay2 (xSt m ρ c)) (k0_pay3 (ixSt m ρ c)) (k0_pay4 (xSt m ρ c) (rwSt m ρ c) (ixSt m ρ c))
        (Scalar.muli (Scalar.remsi (Scalar.divsi (Dev.word c) 1#32) 4#32) 4#32)
        (ewM.view.readAt (Elt F) re0.toLoadRect (ewSt m ρ c))
        (ewM.view.readAt (Elt F) re1.toLoadRect (ewSt m ρ c))
        (ewM.view.readAt (Elt F) re2.toLoadRect (ewSt m ρ c)))
      (k0_pay7 (k0_pay2 (xSt m ρ c)) (k0_pay3 (ixSt m ρ c)) (k0_pay4 (xSt m ρ c) (rwSt m ρ c) (ixSt m ρ c))
        (Scalar.muli (Scalar.remsi (Scalar.divsi (Dev.word c) 1#32) 4#32) 4#32))
      (ewM.view.readAt (Elt F) re3.toLoadRect (ewSt m ρ c)) = acc m ρ c := rfl

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

section
variable (K : Dev nD × Fin 7 → ℕ)

def bodyPre (c : Dev nD) : sProp 𝕄 :=
  iprop((ghost m ρ K c ∗ credits c ∗ levAts L lv)
    ∗ (∃ f : Buf (Elt F) ((c : Thread nD τ).loc cc0_scratch0), ((c : Thread nD τ).loc cc0_scratch0) ↦{fullShare} f)
    ∗ (dats m ρ 0 c).owesAt () t₀.castSucc
    ∗ stg c cc0_stg0_0 (xSt m ρ c) ∗ stg c cc0_stg1_0 (rwSt m ρ c) ∗ stg c cc0_stg2_0 (ixSt m ρ c)
    ∗ stg c cc0_stg3_0 (ewSt m ρ c) ∗ stg c cc0_stg4_0 (swSt m ρ c)
    ∗ (∃ d, stg c cc0_stg5_0 d))

def bodyPost (c : Dev nD) : sProp 𝕄 :=
  iprop(Φ₁ c ∗ (dats m ρ 0 c).owesAt () t₀.succ
    ∗ stg c cc0_stg0_0 (xSt m ρ c) ∗ stg c cc0_stg1_0 (rwSt m ρ c) ∗ stg c cc0_stg2_0 (ixSt m ρ c)
    ∗ stg c cc0_stg3_0 (ewSt m ρ c) ∗ stg c cc0_stg4_0 (swSt m ρ c) ∗ stg c cc0_stg5_0 (outAt m ρ c))

set_option maxHeartbeats 4000000 in
set_option maxRecDepth 8000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) rwM (Memref.isWhole_whole _) ixM (Memref.isWhole_whole _) ewM (Memref.isWhole_whole _)
            swM (Memref.isWhole_whole _) oM (Memref.isWhole_whole _) cM (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost invs marks posns payToks credits
  rw [bigSep_fin7, bigSep_fin7]
  iintro ⟨⟨⟨⟨⟨⟨#I0, #I1, #I2, #I3, #I4, #I5, #I6⟩, #IP, #IN4, #IN5, #IN6⟩, ⟨#RP, #R1, #R2, #R3, #RN4, #RN5, #RN6⟩,
      ⟨A0, A1, A2, A3, A4, A5, A6⟩, TP, T1, T2, T3, TN4, TN5, TN6⟩, ⟨C0, C4, C5, C6⟩, #Hlev⟩, ⟨%f0, Hscr⟩, Ho,
      ⟨%gx, %hgx, Hx⟩, ⟨%grw, %hgrw, Hrw⟩, ⟨%gix, %hgix, Hix⟩, ⟨%gew, %hgew, Hew⟩, ⟨%gsw, %hgsw, Hsw⟩, ⟨%d5, %go, %hgo, Hout⟩⟩, Hk⟩
  subst hgx hgrw hgix hgew hgsw
  unfold Dat.owesAt Pipeline.owesWithin
  icases Ho with ⟨%W, %hW, HO⟩
  rw [show (dats m ρ 0 c).owed t₀.castSucc = owe1 c + tallyAt (kcell (prv c, 0)) () 1 from rfl]
  simp only [dev1_prv c]
  ihave Hsl := (slots_split c f0) $$ Hscr
  icases Hsl with ⟨S0, S1, S2, S3⟩
  -- the signal to the device before: this device's landing slots exist
  iapply (Rounds.wp_signal 𝒱₀ ER (ringRd m ρ) (c : Thread nD τ) none (dst := (prv c : Thread nD τ)) (κ := K (prv c, 0))
      (d := ()) (mem_duties m ρ (prv c) 0) ((amount_at m ρ (prv c) 0 ()).trans (by decide)) () (owe1 c) rfl)
    $$ [HO TP S1 S2 S3]
  · isplitr; · iexact IP
    isplitl [HO]; · iexact HO
    isplitl [TP]; · iexact TP
    isplitl [S1 S2 S3]
    · rw [payload_at m ρ (prv c) 0 ()]; unfold pay; rw [nxt_prv]
      isplitl [S1]; · iexact S1
      isplitl [S2] <;> iassumption
    · iexact RP
  iintro HO
  -- the wait for the device after: its landing slots
  iapply (Rounds.wp_wait_rest_token 𝒱₀ ER (ringRd m ρ) (c : Thread nD τ) none (κ := K (c, 0))
      (wpE_semWait_eq 𝒱₀ (c : Thread nD τ) none Set.univ) (Set.mem_univ _) () (O := owe1 c) (W := W) (R := 0) (m := 0) (T := ∅)
      (by rw [Nat.zero_add]; exact ((expect_at m ρ c 0).trans (by decide)).symm)) $$ [C0 HO A0]
  · isplitr; · iexact I0
    isplitl [C0]; · iexact C0
    isplitl [HO]; · iexact HO
    isplitr; · iapply (mayWait (F := F) c (.reg barS) (owe1 c) (above1 (by decide) c)); iexact Hlev
    iexact A0
  iintro ⟨HO, A0, -, Hpay⟩
  ihave Hp := (Entails.of_eq (rest_at m ρ c 0)) $$ Hpay
  unfold pay
  icases Hp with ⟨N1, N2, N3⟩
  imod (Rounds.cell_close ER (ringRd m ρ) (Set.mem_univ (K (c, 0))) (fun h => h) (R := 0 + 1) (duties_later m ρ (kcell (c, 0)))) $$ [A0] with Z0
  · isplitr; · iexact I0
    iexact A0
  -- the local computation
  iapply (wp_load 𝒱₀ (c : Thread nD τ) none Set.univ (m := xM) (Finset.subset_univ _)) $$ Hx; iintro Hx
  rw [read_x]
  iapply (wp_load 𝒱₀ (c : Thread nD τ) none Set.univ (m := rwM) (Finset.subset_univ _)) $$ Hrw; iintro Hrw
  rw [read_rw]
  iapply (wp_load 𝒱₀ (c : Thread nD τ) none Set.univ (m := ixM) (Finset.subset_univ _)) $$ Hix; iintro Hix
  rw [read_ix]
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  rw [read_sw]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, acc_eq]
  iapply (wp_load 𝒱₀ (c : Thread nD τ) none Set.univ (m := oM) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := ro c) (Mk := Finset.univ) (Finset.subset_univ _)) $$ Hout; iintro Hout
  rw [own_eq]
  iapply (wp_load 𝒱₀ (c : Thread nD τ) none Set.univ (m := oM) (Finset.subset_univ _)) $$ Hout; iintro Hout
  rw [read_out]
  unfold room
  iapply (wp_read_room c rc0 (fun _ => rfl)) $$ S0; iintro %w0 S0
  iapply (wp_fill_slot c rc0 (fun _ => rfl) (V0 m ρ c)) $$ S0; iintro S0
  -- the first hop
  rw [show owe1 c = owe2 c + tallyAt (kcell (nxt c, 4)) () N from rfl]
  iapply (wp_hop m ρ K c (dev2_nxt c) sl0 sl1 (V0 m ρ c) 1 4 snd0 rcv0 rfl rfl rfl rfl rfl rfl
    (show held (nxt c) sl1 (V1 m ρ (nxt c)) = _ by unfold V1; rw [prv_nxt]) (owe2 c) _) $$ [S0 N1 HO T1 TN4]
  · isplitr; · iexact I1
    isplitr; · iexact IN4
    isplitl [S0]; · iexact S0
    isplitl [N1]; · unfold room; iexact N1
    isplitl [HO]; · iexact HO
    isplitl [T1]; · iexact T1
    isplitr; · iexact R1
    isplitl [TN4]; · iexact TN4
    iexact RN4
  iintro ⟨C1, HO⟩
  iapply (wp_take m ρ K c 1 snd0 rfl rfl sl1 sl0 rfl (owe2 c) _ (above2 (by decide) c)) $$ [C1 HO A1]
  · isplitr; · iexact I1
    isplitr; · iexact Hlev
    isplitl [C1]; · iexact C1
    isplitl [HO]; · iexact HO
    iexact A1
  iintro ⟨HO, S0, Z1⟩
  iapply (wp_take m ρ K c 4 rcv0 rfl rfl sl0 sl1 rfl (owe2 c) _ (above2 (by decide) c)) $$ [C4 HO A4]
  · isplitr; · iexact I4
    isplitr; · iexact Hlev
    isplitl [C4]; · iexact C4
    isplitl [HO]; · iexact HO
    iexact A4
  iintro ⟨HO, S1, Z4⟩
  unfold pay
  iapply (wp_load 𝒱₀ (c : Thread nD τ) none Set.univ (m := oM) (Finset.subset_univ _)) $$ Hout; iintro Hout
  rw [read_out]
  iapply (wp_read_slot c rc1 (fun _ => rfl) (V1 m ρ c)) $$ S1; iintro S1
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, out1_eq]
  -- the second hop
  rw [show owe2 c = owe3 c + tallyAt (kcell (nxt c, 5)) () N from rfl]
  iapply (wp_hop m ρ K c (dev3_nxt c) sl1 sl2 (V1 m ρ c) 2 5 snd1 rcv1 rfl rfl rfl rfl rfl rfl
    (show held (nxt c) sl2 (V2 m ρ (nxt c)) = _ by unfold V2; rw [prv_nxt]) (owe3 c) _) $$ [S1 N2 HO T2 TN5]
  · isplitr; · iexact I2
    isplitr; · iexact IN5
    isplitl [S1]; · iexact S1
    isplitl [N2]; · unfold room; iexact N2
    isplitl [HO]; · iexact HO
    isplitl [T2]; · iexact T2
    isplitr; · iexact R2
    isplitl [TN5]; · iexact TN5
    iexact RN5
  iintro ⟨C2, HO⟩
  iapply (wp_take m ρ K c 2 snd1 rfl rfl sl2 sl1 rfl (owe3 c) _ (above3 (by decide) c)) $$ [C2 HO A2]
  · isplitr; · iexact I2
    isplitr; · iexact Hlev
    isplitl [C2]; · iexact C2
    isplitl [HO]; · iexact HO
    iexact A2
  iintro ⟨HO, S1, Z2⟩
  iapply (wp_take m ρ K c 5 rcv1 rfl rfl sl1 sl2 rfl (owe3 c) _ (above3 (by decide) c)) $$ [C5 HO A5]
  · isplitr; · iexact I5
    isplitr; · iexact Hlev
    isplitl [C5]; · iexact C5
    isplitl [HO]; · iexact HO
    iexact A5
  iintro ⟨HO, S2, Z5⟩
  unfold pay
  iapply (wp_load 𝒱₀ (c : Thread nD τ) none Set.univ (m := oM) (Finset.subset_univ _)) $$ Hout; iintro Hout
  rw [read_out]
  iapply (wp_read_slot c rc2 (fun _ => rfl) (V2 m ρ c)) $$ S2; iintro S2
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, out2_eq]
  -- the third hop
  rw [show owe3 c = 0 + tallyAt (kcell (nxt c, 6)) () N from (zero_add _).symm]
  iapply (wp_hop m ρ K c (dev4_nxt c) sl2 sl3 (V2 m ρ c) 3 6 snd2 rcv2 rfl rfl rfl rfl rfl rfl
    (show held (nxt c) sl3 (V3 m ρ (nxt c)) = _ by unfold V3; rw [prv_nxt]) 0 _) $$ [S2 N3 HO T3 TN6]
  · isplitr; · iexact I3
    isplitr; · iexact IN6
    isplitl [S2]; · iexact S2
    isplitl [N3]; · unfold room; iexact N3
    isplitl [HO]; · iexact HO
    isplitl [T3]; · iexact T3
    isplitr; · iexact R3
    isplitl [TN6]; · iexact TN6
    iexact RN6
  iintro ⟨C3, HO⟩
  iapply (wp_take m ρ K c 3 snd2 rfl rfl sl3 sl2 rfl 0 _ (above_zero _)) $$ [C3 HO A3]
  · isplitr; · iexact I3
    isplitr; · iexact Hlev
    isplitl [C3]; · iexact C3
    isplitl [HO]; · iexact HO
    iexact A3
  iintro ⟨HO, S2, Z3⟩
  iapply (wp_take m ρ K c 6 rcv2 rfl rfl sl2 sl3 rfl 0 _ (above_zero _)) $$ [C6 HO A6]
  · isplitr; · iexact I6
    isplitr; · iexact Hlev
    isplitl [C6]; · iexact C6
    isplitl [HO]; · iexact HO
    iexact A6
  iintro ⟨HO, S3, Z6⟩
  unfold pay
  iapply (wp_load 𝒱₀ (c : Thread nD τ) none Set.univ (m := oM) (Finset.subset_univ _)) $$ Hout; iintro Hout
  rw [read_out]
  iapply (wp_read_slot c rc3 (fun _ => rfl) (V3 m ρ c)) $$ S3; iintro S3
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, outAt_eq, wp_ret]; imodintro
  iapply Hk
  ihave S0 := (room_of_held c sl0 _) $$ S0
  ihave S1 := (room_of_held c sl1 _) $$ S1
  ihave S2 := (room_of_held c sl2 _) $$ S2
  ihave S3 := (room_of_held c sl3 _) $$ S3
  ihave Hscr := (slots_join (F := F) c) $$ [S0 S1 S2 S3]
  · isplitl [S0]; · iexact S0
    isplitl [S1]; · iexact S1
    isplitl [S2] <;> iassumption
  unfold bodyPost Φ₁ Dat.owesAt Pipeline.owesWithin
  rw [show (dats m ρ 0 c).owed t₀.succ = 0 from rfl]
  isplitl [Hscr Z0 Z1 Z2 Z3 Z4 Z5 Z6]
  · isplitl [Hscr]; · iexact Hscr
    isplitl [Z0]; · iexact Z0
    isplitl [Z1]; · iexact Z1
    isplitl [Z2]; · iexact Z2
    isplitl [Z3]; · iexact Z3
    isplitl [Z4]; · iexact Z4
    isplitl [Z5] <;> iassumption
  isplitl [HO]
  · iexists _
    isplitr
    rotate_left
    · iexact HO
    ipureintro; exact fun _ _ => Or.inl trivial
  isplitl [Hx]
  · iexists _; isplitr; · (ipureintro; rfl)
    iexact Hx
  isplitl [Hrw]
  · iexists _; isplitr; · (ipureintro; rfl)
    iexact Hrw
  isplitl [Hix]
  · iexists _; isplitr; · (ipureintro; rfl)
    iexact Hix
  isplitl [Hew]
  · iexists _; isplitr; · (ipureintro; rfl)
    iexact Hew
  isplitl [Hsw]
  · iexists _; isplitr; · (ipureintro; rfl)
    iexact Hsw
  iexists _; isplitr; · (ipureintro; rfl)
  iexact Hout

end

end Cert.Ring

end
-- ==== Proof.Launch.lean ====
/-
# The launch

The body's obligation at the pipeline's one point, the ghost state of all four devices dealt around the ring, the
credit at launch, and the run of the whole program.
-/
module

public import proofs.«01_k».proof.Proof.Run
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body at its one point -/

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_W0 Φ

/-- At entry every input window's staging buffer holds the device's argument. -/
theorem before_x (c : Dev nD) (d) : (dats m ρ 0 c).before (0 : Fin 6) t₀ d = xSt m ρ c := by
  unfold Dat.before; rw [if_pos (fetch0_0 t₀)]; rfl
theorem before_rw (c : Dev nD) (d) : (dats m ρ 0 c).before (1 : Fin 6) t₀ d = rwSt m ρ c := by
  unfold Dat.before; rw [if_pos (fetch0_1 t₀)]; rfl
theorem before_ix (c : Dev nD) (d) : (dats m ρ 0 c).before (2 : Fin 6) t₀ d = ixSt m ρ c := by
  unfold Dat.before; rw [if_pos (fetch0_2 t₀)]; rfl
theorem before_ew (c : Dev nD) (d) : (dats m ρ 0 c).before (3 : Fin 6) t₀ d = ewSt m ρ c := by
  unfold Dat.before; rw [if_pos (fetch0_3 t₀)]; rfl
theorem before_sw (c : Dev nD) (d) : (dats m ρ 0 c).before (4 : Fin 6) t₀ d = swSt m ρ c := by
  unfold Dat.before; rw [if_pos (fetch0_4 t₀)]; rfl

def entry (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

theorem entry_pre (c : Dev nD) : entry m ρ c ⊢ iprop(∃ K, bodyPre m ρ K c) := by
  unfold entry Φ₀ start bodyPre
  simp only [before_x, before_rw, before_ix, before_ew, before_sw]
  iintro ⟨⟨⟨⟨%K, Hg⟩, Hc, Hl⟩, Hf⟩, Ho, ⟨%_, H0⟩, ⟨%_, H1⟩, ⟨%_, H2⟩, ⟨%_, H3⟩, ⟨%_, H4⟩, ⟨%d, H5⟩⟩
  iexists K
  isplitl [Hg Hc Hl]
  · isplitl [Hg]; · iexact Hg
    isplitl [Hc] <;> iassumption
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  iexists _; iexact H5

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show entry m ρ c ⊢ wp frame (wpE (defs₀ (F := F)) 𝒱₀ c none) Set.univ
    (cc0_body xM (Memref.isWhole_whole _) rwM (Memref.isWhole_whole _) ixM (Memref.isWhole_whole _) ewM (Memref.isWhole_whole _)
      swM (Memref.isWhole_whole _) oM (Memref.isWhole_whole _) cM (Memref.isWhole_whole _) cc0_scratch1 cc0_scratch2) (fun _ => bodyPost m ρ c)
  iintro H
  ihave H := (entry_pre m ρ c) $$ H
  icases H with ⟨%K, H⟩
  iapply (sound_body m ρ K c fun _ => bodyPost m ρ c)
  isplitl [H]; · iexact H
  iintro H; iexact H

/-! ## The ghost state dealt -/

theorem ownSemFacts : Pipeline.OwnSemFacts cfg0.spec osem := by decide

theorem share_eq (c : Dev nD) (w : Fin cfg0.W) : (dats m ρ 0 c).share w = fullShare := by unfold Dat.share; split <;> rfl

/-- The cells of the ring, and one token for each. -/
def ringCells : Finset (GSem nD τ sig) := Finset.univ.map ⟨kcell, kcell_injective⟩
abbrev tokAt (ck : Dev nD × Fin 7) : GSem nD τ sig × ℕ × Unit := (kcell ck, 0, ())
theorem tokAt_injective : Function.Injective tokAt := fun a b h => kcell_injective (congrArg Prod.fst h)
def ringToks : Finset (GSem nD τ sig × ℕ × Unit) := Finset.univ.map ⟨tokAt, tokAt_injective⟩

def u₀ : UU :=
  (initOf (Pipeline.cells cfgs cellOf_inj) (Pipeline.launchToks cfgs cellOf_inj), initOf ringCells ringToks)

/-- The tokens of device `c`'s own cells. -/
def ownToks (c : Dev nD) : sProp 𝕄 := bigSep Finset.univ fun k : Fin 7 => dutyTok ER (kcell (c, k)) 0 ()
/-- Positions and marks of device `c`'s own cells. -/
def ownPos (c : Dev nD) : sProp 𝕄 :=
  bigSep Finset.univ fun k : Fin 7 => iprop(atPos ER (kcell (c, k)) 0 ∅ 0 ∗ reached ER (kcell (c, k)) 0)

/-- What the launch deals device `c`, -/
def G (c : Dev nD) : sProp 𝕄 :=
  iprop((bigSep Finset.univ fun k : Fin 7 => roundState ER (ringRd m ρ) (kcell (c, k)) 0) ∗ ownPos c ∗ ownToks c)
/-- and what the devices together make of it. -/
def G' (c : Dev nD) : sProp 𝕄 := iprop(∃ K, ghost m ρ K c)

theorem over_cells (Φ : GSem nD τ sig → sProp 𝕄) :
    bigSep ringCells Φ = bigSep Finset.univ fun c : Dev nD => bigSep Finset.univ fun k : Fin 7 => Φ (kcell (c, k)) := by
  unfold ringCells; rw [bigSep_map, bigSep_univ_prod]; rfl
theorem over_toks :
    bigSep ringToks (fun x => (dutyTok ER x.1 x.2.1 x.2.2 : sProp 𝕄)) = bigSep Finset.univ fun c : Dev nD => ownToks c := by
  unfold ringToks ownToks; rw [bigSep_map, bigSep_univ_prod]; rfl

theorem deal : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst := (Entails.of_eq (over_cells fun g => roundState ER (ringRd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G ownPos; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0
        ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem counters (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, H0⟩
  isplitl [H0]; · iexact H0
  iexact H

/-- A device's cells get their invariants. -/
theorem cells_made (c : Dev nD) :
    iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) := by
  rw [← bigSep_sep']
  exact (bigSep_mono fun k _ => (Rounds.body_intro ER (ringRd m ρ) (kcell (c, k))).trans inv_alloc).trans (bigSep_fupd _ _)

def made (c : Dev nD) : sProp 𝕄 :=
  iprop((bigSep Finset.univ fun k : Fin 7 => iprop(∃ κ : ℕ, cellInv ER (ringRd m ρ) κ (kcell (c, k)))) ∗ ownPos c ∗ ownToks c)

theorem device_made (c : Dev nD) :
    iprop(Pipeline.ownSems0 (Ix := Unit) (Name := ℕ) (U := UU) (Lvl := ℕ) (Val := Elt F) (τ := τ) osem c ∗ unscopedSems0 c ∗ G m ρ c)
      ⊢ |={Set.univ}=> made m ρ c := by
  unfold G made
  iintro ⟨Hos, Hus, Hst, Hat, Htok⟩
  ihave Hv := (counters (F := F) c) $$ [Hos Hus]
  · isplitl [Hos] <;> iassumption
  imod (cells_made m ρ c) $$ [Hv Hst] with Hinv
  · isplitl [Hv] <;> iassumption
  imodintro
  isplitl [Hinv]; · iexact Hinv
  isplitl [Hat] <;> iassumption

/-- All the invariants and all the marks, of all devices. -/
def allInv (K : Dev nD × Fin 7 → ℕ) : sProp 𝕄 := bigSep Finset.univ fun ck : Dev nD × Fin 7 => cellInv ER (ringRd m ρ) (K ck) (kcell ck)
def allMarks : sProp 𝕄 := bigSep Finset.univ fun ck : Dev nD × Fin 7 => reached ER (kcell ck) 0
instance allInv_persistent (K : Dev nD × Fin 7 → ℕ) : BI.Persistent (allInv m ρ K) := by unfold allInv; infer_instance
instance allMarks_persistent : BI.Persistent (allMarks (F := F)) := by unfold allMarks; infer_instance

theorem inv_of_all (K : Dev nD × Fin 7 → ℕ) (ck : Dev nD × Fin 7) : allInv m ρ K ⊢ cellInv ER (ringRd m ρ) (K ck) (kcell ck) := by
  unfold allInv; exact bigSep_elim (Finset.mem_univ ck)
theorem mark_of_all (ck : Dev nD × Fin 7) : (allMarks : sProp 𝕄) ⊢ reached ER (kcell ck) 0 := by
  unfold allMarks; exact bigSep_elim (Finset.mem_univ ck)

theorem invs_of_all (K : Dev nD × Fin 7 → ℕ) (c : Dev nD) : allInv m ρ K ⊢ invs m ρ K c := by
  unfold invs; rw [bigSep_fin7]
  iintro #H
  isplitr
  · isplitr; · iapply (inv_of_all m ρ K (c, 0)); iexact H
    isplitr; · iapply (inv_of_all m ρ K (c, 1)); iexact H
    isplitr; · iapply (inv_of_all m ρ K (c, 2)); iexact H
    isplitr; · iapply (inv_of_all m ρ K (c, 3)); iexact H
    isplitr; · iapply (inv_of_all m ρ K (c, 4)); iexact H
    isplitr; · iapply (inv_of_all m ρ K (c, 5)); iexact H
    iapply (inv_of_all m ρ K (c, 6)); iexact H
  isplitr; · iapply (inv_of_all m ρ K (prv c, 0)); iexact H
  isplitr; · iapply (inv_of_all m ρ K (nxt c, 4)); iexact H
  isplitr; · iapply (inv_of_all m ρ K (nxt c, 5)); iexact H
  iapply (inv_of_all m ρ K (nxt c, 6)); iexact H

theorem marks_of_all (c : Dev nD) : (allMarks : sProp 𝕄) ⊢ marks c := by
  unfold marks
  iintro #H
  isplitr; · iapply (mark_of_all (F := F) (prv c, 0)); iexact H
  isplitr; · iapply (mark_of_all (F := F) (c, 1)); iexact H
  isplitr; · iapply (mark_of_all (F := F) (c, 2)); iexact H
  isplitr; · iapply (mark_of_all (F := F) (c, 3)); iexact H
  isplitr; · iapply (mark_of_all (F := F) (nxt c, 4)); iexact H
  isplitr; · iapply (mark_of_all (F := F) (nxt c, 5)); iexact H
  iapply (mark_of_all (F := F) (nxt c, 6)); iexact H

theorem ghost_made (K : Dev nD × Fin 7 → ℕ) (c : Dev nD) :
    iprop((allInv m ρ K ∗ allMarks) ∗ (posns c ∗ payToks c)) ⊢ G' m ρ c := by
  unfold G' ghost
  iintro ⟨⟨HI, HR⟩, Hp, Ht⟩
  iexists K
  isplitl [HI]; · iapply (invs_of_all m ρ K c); iexact HI
  isplitl [HR]; · iapply (marks_of_all (F := F) c); iexact HR
  isplitl [Hp] <;> iassumption

/-- Each barrier's token goes one device on, each receive cell's one device back. -/
theorem toks_around : (bigSep Finset.univ fun c : Dev nD => (ownToks c : sProp 𝕄)) ⊢ bigSep Finset.univ fun c : Dev nD => payToks c := by
  unfold ownToks payToks
  simp only [bigSep_fin7, bigSep_sep']
  rw [bigSep_univ_equiv turn.symm (fun c : Dev nD => (dutyTok ER (kcell (c, 0)) 0 () : sProp 𝕄)),
    bigSep_univ_equiv turn (fun c : Dev nD => (dutyTok ER (kcell (c, 4)) 0 () : sProp 𝕄)),
    bigSep_univ_equiv turn (fun c : Dev nD => (dutyTok ER (kcell (c, 5)) 0 () : sProp 𝕄)),
    bigSep_univ_equiv turn (fun c : Dev nD => (dutyTok ER (kcell (c, 6)) 0 () : sProp 𝕄))]
  exact Entails.refl _

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => made m ρ c) ⊢ bigSep Finset.univ (G' m ρ) := by
  unfold made ownPos
  simp only [bigSep_sep']
  rw [← bigSep_univ_prod (fun ck : Dev nD × Fin 7 => iprop(∃ κ : ℕ, cellInv ER (ringRd m ρ) κ (kcell ck))),
    ← bigSep_univ_prod (fun ck : Dev nD × Fin 7 => (reached ER (kcell ck) 0 : sProp 𝕄))]
  iintro ⟨HI, ⟨Hat, HR⟩, Htok⟩
  ihave HK := (BI.bigSep_exists_pi Finset.univ (fun (ck : Dev nD × Fin 7) (κ : ℕ) => (cellInv ER (ringRd m ρ) κ (kcell ck) : sProp 𝕄))) $$ HI
  icases HK with ⟨%K, HI⟩
  ihave Htk := (toks_around (F := F)) $$ Htok
  iapply (with_shared (R := iprop(allInv m ρ K ∗ allMarks)) fun c _ => ghost_made m ρ K c)
  unfold allInv allMarks posns
  simp only [bigSep_sep']
  isplitl [HI HR]
  · isplitl [HI] <;> iassumption
  isplitl [Hat] <;> iassumption

theorem together : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_made m ρ c).trans (bigSep_fupd _ _)).trans (BI.fupd_mono (regroup m ρ))

/-! ## The credit at launch -/

theorem tally_kcell (a b : Dev nD) (j k : Fin 7) (n : ℕ) :
    tallyAt (kcell (a, j)) () n (kcell (b, k)) () = if b = a ∧ k = j then n else 0 := by
  rw [tallyAt_apply]
  refine if_congr ?_ rfl rfl
  rw [kcell_injective.eq_iff, Prod.mk.injEq]; exact and_iff_left rfl

theorem owed_at (d c : Dev nD) (k : Fin 7) : owe0 d (kcell (c, k)) () =
    (((if c = nxt d ∧ k = 6 then N else 0) + (if c = nxt d ∧ k = 5 then N else 0)) + (if c = nxt d ∧ k = 4 then N else 0))
      + (if c = prv d ∧ k = 0 then 1 else 0) := by
  unfold owe0 owe1 owe2 owe3
  rw [Pi.add_apply, Finsupp.add_apply, Pi.add_apply, Finsupp.add_apply, Pi.add_apply, Finsupp.add_apply,
    tally_kcell, tally_kcell, tally_kcell, tally_kcell]

theorem nxt_iff (c d : Dev nD) : c = nxt d ↔ d = prv c := ⟨fun h => by rw [h, prv_nxt], fun h => by rw [h, nxt_prv]⟩
theorem prv_iff (c d : Dev nD) : c = prv d ↔ d = nxt c := ⟨fun h => by rw [h, nxt_prv], fun h => by rw [h, prv_nxt]⟩

/-- What a device may wait for on its barrier and its receive cells. -/
def due (k : Fin 7) : ℕ := if k = 0 then 1 else if k = 4 ∨ k = 5 ∨ k = 6 then N else 0

theorem owed_sum (c : Dev nD) (k : Fin 7) : (∑ d : Dev nD, owe0 d (kcell (c, k)) ()) = due k := by
  have hn (n : ℕ) (p : Prop) [Decidable p] : (∑ d : Dev nD, if c = nxt d ∧ p then n else 0) = if p then n else 0 := by
    by_cases hp : p
    · simp only [hp, and_true, if_true, nxt_iff]; rw [Finset.sum_ite_eq' Finset.univ (prv c) fun _ => n, if_pos (Finset.mem_univ _)]
    · simp only [hp, and_false, if_false, Finset.sum_const_zero]
  have hp (n : ℕ) (p : Prop) [Decidable p] : (∑ d : Dev nD, if c = prv d ∧ p then n else 0) = if p then n else 0 := by
    by_cases hp : p
    · simp only [hp, and_true, if_true, prv_iff]; rw [Finset.sum_ite_eq' Finset.univ (nxt c) fun _ => n, if_pos (Finset.mem_univ _)]
    · simp only [hp, and_false, if_false, Finset.sum_const_zero]
  simp only [owed_at, Finset.sum_add_distrib, hn, hp]
  unfold due
  generalize N = n
  revert k; intro k; fin_cases k <;> simp

theorem launch_at (c : Dev nD) (k : Fin 7) :
    tallyOn (kcell (c, k)) (launchCredit (Pipeline.owing owe0) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, owed_sum]

theorem creds (c : Dev nD) : (Pipeline.launchCred owe0 c : sProp 𝕄) ⊢ credits c := by
  unfold Pipeline.launchCred credits
  refine (bigSep_subset (Finset.subset_univ [csem 0, csem 4, csem 5, csem 6].toFinset)).trans ?_
  rw [bigSep_eq_bigSepL_of_eq [csem 0, csem 4, csem 5, csem 6] rfl (by decide)]
  have h0 := launch_at c 0
  have h4 := launch_at c 4
  have h5 := launch_at c 5
  have h6 := launch_at c 6
  unfold due at h0 h4 h5 h6
  rw [if_pos rfl] at h0
  rw [if_neg (by decide), if_pos (by decide)] at h4 h5 h6
  rw [← h0, ← h4, ← h5, ← h6]
  exact Entails.refl _

/-! ## The run -/

theorem start_made (c : Dev nD) :
    iprop(Pipeline.unscopedRestP Pipeline.Prefetch.none cfg0.spec c (fun b => m ((c : Thread nD τ).loc b)) ∗ levAts L lv
        ∗ Pipeline.launchCred owe0 c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hf⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hf, H0, H⟩
  isplitl [H0]; · iexact H0
  isplitl [H] <;> iassumption

theorem stage_low (w : Fin cfg0.W) (s : Fin (cfg0.win w).nbuf) : lvS (.dma ((cfg0.win w).sem s)) = 0 := by
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      rw [show lvS (.dma ((((cfgs 0).win w).sem s))) = 0 from stage_low w s]
      rcases t with ⟨_ | _, ht⟩
      · exact above0 (by decide) c
      · exact above_zero _)

/-- The contents of window `w`'s array on device `c` after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, over any float values and from any memory with zero counters, every fair run ends, with every
    array at its computed contents and every counter at zero. -/
theorem run_main : θ_run defs (onTc (τ := τ) (main (F := F))) (mem₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owe0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := together m ρ)
    (hA := fun _ _ => rfl) (hpf := fun _ k => k.elim0)
    (X := start m ρ) (Y := fun c => unscopedSems0 c) (Z := fun _ => iprop(emp))
    (hX := start_made m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Frames.lean ====
/-
# The frames

Every program runs to its end with its arguments unchanged and every counter at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Ring

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The argument arrays hold after the run what they held. -/
theorem final_arg0 (c : Dev nD) : finalA m ρ c (0 : Fin 6) = m ((c : Thread nD τ).loc main_arg0) := (dats (F := F) m ρ 0 c).arrAt_in (0 : Fin 6) rfl _
theorem final_arg1 (c : Dev nD) : finalA m ρ c (1 : Fin 6) = m ((c : Thread nD τ).loc main_arg1) := (dats (F := F) m ρ 0 c).arrAt_in (1 : Fin 6) rfl _
theorem final_arg2 (c : Dev nD) : finalA m ρ c (2 : Fin 6) = m ((c : Thread nD τ).loc main_arg2) := (dats (F := F) m ρ 0 c).arrAt_in (2 : Fin 6) rfl _
theorem final_arg3 (c : Dev nD) : finalA m ρ c (3 : Fin 6) = m ((c : Thread nD τ).loc main_arg3) := (dats (F := F) m ρ 0 c).arrAt_in (3 : Fin 6) rfl _
theorem final_arg4 (c : Dev nD) : finalA m ρ c (4 : Fin 6) = m ((c : Thread nD τ).loc main_arg4) := (dats (F := F) m ρ 0 c).arrAt_in (4 : Fin 6) rfl _

/-- The run's final state, array by array. -/
theorem ends_args {r : PUnit × MemSt nD τ sig (Elt F)} (h : Ends m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c (0 : Fin 6)).trans (final_arg0 m ρ c), (h c (1 : Fin 6)).trans (final_arg1 m ρ c), (h c (2 : Fin 6)).trans (final_arg2 m ρ c),
    (h c (3 : Fin 6)).trans (final_arg3 m ρ c), (h c (4 : Fin 6)).trans (final_arg4 m ρ c)⟩

/-- The run ends with the arguments as they were and every counter at zero. -/
theorem run_args : θ_run defs (onTc (τ := τ) (main (F := F))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0 :=
  (θ_run defs _ _).mono (fun _ h => ⟨ends_args m ρ h.1, h.2⟩) (run_main m ρ)

/-- The two programs have one text: their tables of kernels are equal, -/
theorem table_same : Cert.Kernel.defs₀ (F := F) = Cert.KernelIdeal.defs₀ := by
  unfold Cert.Kernel.defs₀ Cert.KernelIdeal.defs₀
  refine congrArg Defs.onTc (funext fun l => ?_)
  obtain rfl : l = 0 := Subsingleton.elim _ _
  refine funext fun a => ?_
  obtain ⟨t, s⟩ := a
  rfl
theorem defs_same : Cert.Kernel.defs (F := F) = Cert.KernelIdeal.defs :=
  congrArg (Pipeline.defs Cert.Kernel.pcfgs) table_same

/-- so the one run serves both. -/
theorem frame_kernel : Cert.quiescent_Kernel := fun m ρ _ => by
  rw [defs_same]
  exact run_args (F := Bits) m ρ

theorem frame_kernelIdeal : Cert.quiescent_KernelIdeal := fun m ρ _ => run_args (F := Ideal) m ρ

theorem frame_referenceIdeal : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

end Cert.Ring

end
-- ==== Proof.Gate.lean ====
/-
# The mixture-of-experts block on one token, over the extended reals

The mathematics with no program in it: the router's weights (a softmax of the scores), the block's
value, what one of the four devices contributes to it, and that the four contributions add up to it.
-/
module

public import Idealize.ShloMosaic.PureOps.Ideal
public import Idealize.ShloMosaic.Lib.Pointwise

@[expose] public section

noncomputable section

namespace Cert.Moe

open Idealize.ShloMosaic

/-! ## The softmax of finite scores -/

/-- The largest score. -/
def peak (s : Fin 16 → EReal) : EReal := Finset.univ.fold max ⊥ s

/-- The softmax of the scores at expert `e`. -/
def gate (s : Fin 16 → EReal) (e : Fin 16) : EReal :=
  Ideal.div (Ideal.exp (s e - peak s)) (∑ k : Fin 16, Ideal.exp (s k - peak s))

/-- The largest of sixteen finite scores is finite. -/
theorem peak_real (s : Fin 16 → ℝ) : ∃ r : ℝ, peak (fun e => (s e : EReal)) = r := by
  have h : ∀ t : Finset (Fin 16), t.fold max ⊥ (fun e => (s e : EReal)) = ⊥ ∨ ∃ r : ℝ, t.fold max ⊥ (fun e => (s e : EReal)) = r := by
    intro t
    induction t using Finset.induction_on with
    | empty => exact .inl rfl
    | insert a t ha ih =>
      rw [Finset.fold_insert ha]
      rcases ih with h | ⟨r, h⟩ <;> rw [h]
      · exact .inr ⟨s a, max_bot_right _⟩
      · exact .inr ⟨max (s a) r, (EReal.coe_strictMono.monotone.map_max).symm⟩
  rcases h Finset.univ with h0 | h0
  · exfalso
    have hle : ((s 0 : ℝ) : EReal) ≤ Finset.univ.fold max ⊥ (fun e => (s e : EReal)) :=
      Finset.le_fold_max _ |>.2 (.inr ⟨0, Finset.mem_univ _, le_rfl⟩)
    rw [h0] at hle
    exact EReal.coe_ne_bot _ (le_bot_iff.1 hle)
  · exact h0

/-- A sum of real numbers, taken among the extended reals, is the real sum. -/
theorem sum_real {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The softmax of finite scores is a real number that is not negative. -/
theorem gate_real (s : Fin 16 → EReal) (hs : ∀ e, ∃ r : ℝ, s e = r) (e : Fin 16) :
    ∃ r : ℝ, 0 ≤ r ∧ gate s e = r := by
  choose a ha using hs
  obtain rfl : s = fun e => (a e : EReal) := funext ha
  obtain ⟨M, hM⟩ := peak_real a
  have hexp : ∀ k, Ideal.exp ((a k : EReal) - peak fun e => (a e : EReal)) = ((Real.exp (a k - M) : ℝ) : EReal) := by
    intro k
    rw [hM, ← EReal.coe_sub]
    rfl
  have hpos : 0 < ∑ k : Fin 16, Real.exp (a k - M) := Finset.sum_pos (fun k _ => Real.exp_pos _) ⟨0, Finset.mem_univ _⟩
  refine ⟨Real.exp (a e - M) * (1 / ∑ k : Fin 16, Real.exp (a k - M)), by positivity, ?_⟩
  unfold gate
  simp only [hexp]
  rw [sum_real, Ideal.div_coe hpos.ne', ← EReal.coe_mul]

/-! ## A weight comes out of a sum -/

/-- A real factor that is not negative distributes over a sum of extended reals. -/
theorem mul_sum_real {ι : Type} (t : Finset ι) (r : ℝ) (hr : 0 ≤ r) (f : ι → EReal) :
    ∑ i ∈ t, (r : EReal) * f i = (r : EReal) * ∑ i ∈ t, f i := by
  classical
  induction t using Finset.induction_on with
  | empty => simp
  | insert a t ha ih =>
    rw [Finset.sum_insert ha, Finset.sum_insert ha, ih]
    exact (EReal.left_distrib_of_nonneg_of_ne_top (EReal.coe_nonneg.2 hr) (EReal.coe_ne_top r) _ _).symm

/-- Weighting the token before the product is weighting the product. -/
theorem weigh (r : ℝ) (hr : 0 ≤ r) (x w : Fin 512 → EReal) :
    ∑ d, (x d * (r : EReal)) * w d = (r : EReal) * ∑ d, x d * w d := by
  rw [← mul_sum_real _ r hr]
  exact Finset.sum_congr rfl fun d _ => by rw [mul_comm (x d), mul_assoc]

/-! ## The block and the devices' parts of it -/

/-- The score of expert `e`: the token against the router's column. -/
def score (x : Fin 512 → EReal) (rW : Fin 512 → Fin 16 → EReal) (e : Fin 16) : EReal := ∑ k, x k * rW k e

/-- The block's value for one token: the shared expert, and the chosen expert at its weight. -/
def moe (x : Fin 512 → EReal) (s : Fin 16 → EReal) (ix : BitVec 32) (W : Fin 16 → Fin 512 → EReal) (sW : Fin 512 → EReal) : EReal :=
  (∑ k, x k * sW k) + ∑ e : Fin 16, if ix = BitVec.ofNat 32 e then gate s e * ∑ d, x d * W e d else 0

/-- The weight of the chosen expert (zero where the index names none). -/
def weight (s : Fin 16 → EReal) (ix : BitVec 32) : EReal := ∑ e : Fin 16, if ix = BitVec.ofNat 32 e then gate s e else 0

/-- Where the index names expert `e`, the weight is `e`'s. -/
theorem weight_eq (s : Fin 16 → EReal) (e : Fin 16) : weight s (BitVec.ofNat 32 e) = gate s e := by
  have h : ∀ a b : Fin 16, BitVec.ofNat 32 a.val = BitVec.ofNat 32 b.val ↔ a = b := by decide
  unfold weight
  simp only [h]
  rw [Finset.sum_ite_eq]
  exact if_pos (Finset.mem_univ _)

/-- The term of expert `e` as a device computes it: the token weighted first, with weight zero unless
    the index names `e`. -/
def term (x : Fin 512 → EReal) (s : Fin 16 → EReal) (ix : BitVec 32) (W : Fin 16 → Fin 512 → EReal) (e : Fin 16) : EReal :=
  ∑ d, (x d * if ix = BitVec.ofNat 32 e then weight s ix else 0) * W e d

/-- It is the block's term of expert `e`. -/
theorem term_eq (x : Fin 512 → EReal) (s : Fin 16 → EReal) (hs : ∀ e, ∃ r : ℝ, s e = r) (ix : BitVec 32)
    (W : Fin 16 → Fin 512 → EReal) (e : Fin 16) :
    term x s ix W e = if ix = BitVec.ofNat 32 e then gate s e * ∑ d, x d * W e d else 0 := by
  unfold term
  by_cases h : ix = BitVec.ofNat 32 e
  · subst h
    obtain ⟨r, hr, hg⟩ := gate_real s hs e
    simp only [if_true, weight_eq, hg]
    exact weigh r hr x (W e)
  · simp only [if_neg h, mul_zero, zero_mul, Finset.sum_const_zero]

/-- Expert `j` of the four on device `c`. -/
def expert (c j : Fin 4) : Fin 16 := ⟨4 * c.val + j.val, by omega⟩

/-- What device `c` contributes to row `n`: its four experts in turn, and the shared expert on its own
    quarter of the rows. -/
def part (x : Fin 512 → EReal) (s : Fin 16 → EReal) (ix : BitVec 32) (W : Fin 16 → Fin 512 → EReal) (sW : Fin 512 → EReal)
    (n : Fin 1024) (c : Fin 4) : EReal :=
  (((term x s ix W (expert c 0) + term x s ix W (expert c 1)) + term x s ix W (expert c 2)) + term x s ix W (expert c 3))
    + if n.val / 256 = c.val then ∑ k, x k * sW k else 0

/-- The four devices' parts add up to the block. -/
theorem sum_part (x : Fin 512 → EReal) (s : Fin 16 → EReal) (hs : ∀ e, ∃ r : ℝ, s e = r) (ix : BitVec 32)
    (W : Fin 16 → Fin 512 → EReal) (sW : Fin 512 → EReal) (n : Fin 1024) :
    ∑ c : Fin 4, part x s ix W sW n c = moe x s ix W sW := by
  have hq : (∑ c : Fin 4, if n.val / 256 = c.val then ∑ k, x k * sW k else 0) = ∑ k, x k * sW k := by
    have h : ∀ c : Fin 4, (n.val / 256 = c.val) ↔ (⟨n.val / 256, by omega⟩ : Fin 4) = c := fun c => by rw [Fin.ext_iff]
    simp only [h]
    rw [Finset.sum_ite_eq]
    exact if_pos (Finset.mem_univ _)
  have he : (∑ c : Fin 4, (((term x s ix W (expert c 0) + term x s ix W (expert c 1)) + term x s ix W (expert c 2)) + term x s ix W (expert c 3)))
      = ∑ e : Fin 16, term x s ix W e := by
    generalize term x s ix W = f
    simp only [Fin.sum_univ_succ, Fin.sum_univ_zero, add_zero, expert]
    simp only [← add_assoc]
    rfl
  unfold part moe
  rw [Finset.sum_add_distrib, hq, he, add_comm]
  exact congrArg _ (Finset.sum_congr rfl fun e _ => term_eq x s hs ix W e)

end Cert.Moe

end
-- ==== Proof.RefValue.lean ====
/-
# What the reference computes

The reference's result term, element by element, is the block's value.
-/
module

public import proofs.«01_k».proof.Proof.Gate
public import proofs.«01_k».proof.Proof.Gen.ReferenceIdeal
public import Idealize.ShloMosaic.Lib.Pointwise

@[expose] public section

set_option maxRecDepth 16384

noncomputable section

namespace Cert.Moe

open Cert.ReferenceIdeal Cert.ReferenceIdeal.Gen
open Idealize.ShloMosaic

/-- The word of minus infinity. -/
theorem ofBits_bot : Ideal.ofBits .f32 0xFF800000#32 = ⊥ := by simp [Ideal.ofBits, Ideal.ieee]

/-- A choice by the equality of two words. -/
theorem select_eq {α : Type} (a b : BitVec 32) (y z : α) : Scalar.select (IntOp.cmpi .eq a b) y z = if a = b then y else z := by
  unfold Scalar.select IntOp.cmpi
  by_cases h : a = b
  · simp [h]
  · simp [h, beq_eq_false_iff_ne.2 h]

/-- The reference's scores. -/
def refScore (x : FVec Ideal S1024x512 .bf16) (rW : FVec Ideal S512x16 .bf16) : FVec Ideal S1024x16 .f32 :=
  Host.dotGeneral dot_S1024x512_S512x16_S1024x16_1_0_0_1_n_n none (extf .f32 x Gen.bitsLt_bf16_f32) (extf .f32 rW Gen.bitsLt_bf16_f32)

/-- Its shifted exponentials of scores. -/
def refExp (s : FVec Ideal S1024x16 .f32) : FVec Ideal S1024x16 .f32 :=
  Host.exp (subf s (broadcastInDim S1024x16 ![0, 1] Gen.bcast_S1024x1_S1024x16_0_1 (broadcastInDim S1024x1 ![0] Gen.bcast_S1024_S1024x1_0 (Host.reduce FloatOps.maximumf s (constant S_ .f32 0xFF800000#32) Gen.reducesTo_S1024x16_S1024_d1 Gen.h_S_))))

/-- Its probabilities. -/
def refProb (s : FVec Ideal S1024x16 .f32) : FVec Ideal S1024x16 .f32 :=
  Host.divf (refExp s) (broadcastInDim S1024x16 ![0, 1] Gen.bcast_S1024x1_S1024x16_0_1 (broadcastInDim S1024x1 ![0] Gen.bcast_S1024_S1024x1_0 (Host.reduceAdd (refExp s) (constant S_ .f32 0x00000000#32) Gen.reducesTo_S1024x16_S1024_d1 Gen.h_S_)))

/-- Its routed part from the probabilities. -/
def refRouted (x : FVec Ideal S1024x512 .bf16) (p : FVec Ideal S1024x16 .f32) (ix : IVec S1024x1 32) (W : FVec Ideal S16x512x1024 .bf16) : FVec Ideal S1024x1024 .f32 :=
  Host.reduceAdd (select (broadcastInDim S1024x16x1024 ![0, 1, 2] Gen.bcast_S1024x16x1_S1024x16x1024_0_1_2 (broadcastInDim S1024x16x1 ![0, 1] Gen.bcast_S1024x16_S1024x16x1_0_1 (cmpi .eq (broadcastInDim S1024x16 ![0, 1] Gen.bcast_S1024x1_S1024x16_0_1 ix) (broadcastInDim S1024x16 ![0, 1] Gen.bcast_S1x16_S1024x16_0_1 (broadcastInDim S1x16 ![1] Gen.bcast_S16_S1x16_1 (iotaInDim S16 32 0)))))) (mulf (broadcastInDim S1024x16x1024 ![0, 1, 2] Gen.bcast_S1024x16x1_S1024x16x1024_0_1_2 (broadcastInDim S1024x16x1 ![0, 1] Gen.bcast_S1024x16_S1024x16x1_0_1 p)) (Host.dotGeneral dot_S1024x512_S16x512x1024_S1024x16x1024_1_1_0_02_n_n none (extf .f32 x Gen.bitsLt_bf16_f32) (extf .f32 W Gen.bitsLt_bf16_f32))) (broadcastInDim S1024x16x1024 ![] Gen.bcast_S_S1024x16x1024 (id (constant S_ .f32 0x00000000#32)))) (constant S_ .f32 0x00000000#32) Gen.reducesTo_S1024x16x1024_S1024x1024_d1 Gen.h_S_

/-- The reference's result. -/
def refOut (x : FVec Ideal S1024x512 .bf16) (rW : FVec Ideal S512x16 .bf16) (ix : IVec S1024x1 32) (W : FVec Ideal S16x512x1024 .bf16) (sW : FVec Ideal S512x1024 .bf16) : FVec Ideal S1024x1024 .f32 :=
  addf (Host.dotGeneral dot_S1024x512_S512x1024_S1024x1024_1_0_0_1_n_n none (extf .f32 x Gen.bitsLt_bf16_f32) (extf .f32 sW Gen.bitsLt_bf16_f32)) (refRouted x (refProb (refScore x rW)) ix W)

theorem refScore_apply (x : FVec Ideal S1024x512 .bf16) (rW : FVec Ideal S512x16 .bf16) (n : Fin 1024) (e : Fin 16) :
    refScore x rW (ix2 n e) = score (fun k => x (ix2 n k)) (fun k e => rW (ix2 k e)) e := by
  pointwise [refScore, score]

theorem refExp_apply (s : FVec Ideal S1024x16 .f32) (n : Fin 1024) (e : Fin 16) :
    refExp s (ix2 n e) = Ideal.exp (s (ix2 n e) - peak fun k => s (ix2 n k)) := by
  pointwise [refExp, peak, ofBits_bot]

theorem refProb_apply (s : FVec Ideal S1024x16 .f32) (n : Fin 1024) (e : Fin 16) :
    refProb s (ix2 n e) = gate (fun k => s (ix2 n k)) e := by
  pointwise [refProb, gate, refExp_apply]

theorem refRouted_apply (x : FVec Ideal S1024x512 .bf16) (p : FVec Ideal S1024x16 .f32) (ix : IVec S1024x1 32)
    (W : FVec Ideal S16x512x1024 .bf16) (n h : Fin 1024) :
    refRouted x p ix W (ix2 n h) = ∑ e : Fin 16, if ix (ix2 n 0) = BitVec.ofNat 32 e then p (ix2 n e) * ∑ d : Fin 512, x (ix2 n d) * W (ix3 e d h) else 0 := by
  pointwise [refRouted]
  refine Finset.sum_congr rfl fun e _ => ?_
  rw [select_eq, show id (constant (F := Ideal) S_ .f32 0x00000000#32) ix0 = 0 from Ideal.ofBits_zero_f32]

/-- Element by element the reference's result is the block's value. -/
theorem refOut_apply (x : FVec Ideal S1024x512 .bf16) (rW : FVec Ideal S512x16 .bf16) (ix : IVec S1024x1 32)
    (W : FVec Ideal S16x512x1024 .bf16) (sW : FVec Ideal S512x1024 .bf16) (n h : Fin 1024) :
    refOut x rW ix W sW (ix2 n h)
      = moe (fun k => x (ix2 n k)) (score (fun k => x (ix2 n k)) fun k e => rW (ix2 k e)) (ix (ix2 n 0))
          (fun e d => W (ix3 e d h)) (fun k => sW (ix2 k h)) := by
  pointwise [refOut, moe, refRouted_apply, refProb_apply, refScore_apply]

end Cert.Moe

end
-- ==== Proof.KernelValue.lean ====
/-
# What the kernel computes

The routed part of a device, its shared rows, and the sum over the ring, element by element.
-/
module

public import proofs.«01_k».proof.Proof.Gate
public import proofs.«01_k».proof.Proof.RefValue
public import proofs.«01_k».proof.Proof.Ring
public import Idealize.ShloMosaic.Lib.Pointwise
public import Idealize.ShloMosaic.Lib.Pipeline.Value

@[expose] public section

set_option maxRecDepth 16384

noncomputable section

namespace Cert.Ring

open Cert.KernelIdeal Cert.KernelIdeal.Gen
open Cert.Moe (select_eq ofBits_bot)

open Idealize.ShloMosaic
open Idealize.ShloMosaic.TcCoe
open Idealize.SL.Sem

/-! ## The routed part -/

/-- The weight of a token's expert. -/
theorem chosen_apply (x : FVec Ideal S1024x512 .bf16) (rw : FVec Ideal S512x16 .bf16) (ix : IVec S1024x1 32) (n : Fin 1024) :
    k0_pay4 (F := Ideal) x rw ix (ix2 n 0)
      = Cert.Moe.weight (Cert.Moe.score (fun k => x (ix2 n k)) fun k e => rw (ix2 k e)) (ix (ix2 n 0)) := by
  pointwise [k0_pay4, k0_pay2, k0_pay3, ofBits_bot, select_eq, Cert.Moe.weight, Cert.Moe.gate, Cert.Moe.peak, Cert.Moe.score]

/-- The weight a token has for expert `j` of the device. -/
theorem masked_apply (ix : IVec S1024x1 32) (p : FVec Ideal S1024x1 .f32) (w : BitVec 32) (n : Fin 1024) (j : Fin 4) :
    k0_pay5 (F := Ideal) ix p w (ix2 n j) = if ix (ix2 n 0) = w + BitVec.ofNat 32 j.val then p (ix2 n 0) else 0 := by
  pointwise [k0_pay5, select_eq]
  rfl

/-- The number of expert `j` of device `c`. -/
theorem number_eq (c j : Fin 4) : baseW c + BitVec.ofNat 32 j.val = BitVec.ofNat 32 (Cert.Moe.expert c j).val := by
  revert c j; decide

/-- A token against an expert, weighted first. -/
def dotted (x w : Fin 512 → EReal) (a : EReal) : EReal := ∑ d, (x d * a) * w d

theorem first_apply (x : FVec Ideal S1024x512 .bf16) (ix : IVec S1024x1 32) (p : FVec Ideal S1024x1 .f32) (w : BitVec 32)
    (e0 e1 e2 : FVec Ideal S1x512x1024 .bf16) (n h : Fin 1024) :
    k0_pay6 (F := Ideal) x ix p w e0 e1 e2 (ix2 n h)
      = (dotted (fun d => x (ix2 n d)) (fun d => e0 (ix3 0 d h)) (k0_pay5 (F := Ideal) ix p w (ix2 n 0))
        + dotted (fun d => x (ix2 n d)) (fun d => e1 (ix3 0 d h)) (k0_pay5 (F := Ideal) ix p w (ix2 n 1)))
        + dotted (fun d => x (ix2 n d)) (fun d => e2 (ix3 0 d h)) (k0_pay5 (F := Ideal) ix p w (ix2 n 2)) := by
  pointwise [k0_pay6, dotted]

theorem last_apply (x : FVec Ideal S1024x512 .bf16) (ix : IVec S1024x1 32) (p : FVec Ideal S1024x1 .f32) (w : BitVec 32)
    (v : FVec Ideal S1024x1024 .f32) (e3 : FVec Ideal S1x512x1024 .bf16) (n h : Fin 1024) :
    k0_pay8 (F := Ideal) v (k0_pay7 (F := Ideal) x ix p w) e3 (ix2 n h)
      = v (ix2 n h) + dotted (fun d => x (ix2 n d)) (fun d => e3 (ix3 0 d h)) (k0_pay5 (F := Ideal) ix p w (ix2 n 3)) := by
  pointwise [k0_pay8, k0_pay7, dotted]

/-- Expert `e`'s term of the result at token `n`, column `h`. -/
abbrev term4 (x : FVec Ideal S1024x512 .bf16) (rw : FVec Ideal S512x16 .bf16) (ix : IVec S1024x1 32)
    (W : Fin 16 → Fin 512 → Fin 1024 → EReal) (n h : Fin 1024) (e : Fin 16) : EReal :=
  Cert.Moe.term (fun k => x (ix2 n k)) (Cert.Moe.score (fun k => x (ix2 n k)) fun k e => rw (ix2 k e)) (ix (ix2 n 0)) (fun e d => W e d h) e

/-- The routed part of a device: the terms of its four experts. -/
theorem routed_apply (c : Dev nD) (x : FVec Ideal S1024x512 .bf16) (rw : FVec Ideal S512x16 .bf16) (ix : IVec S1024x1 32)
    (W : Fin 16 → Fin 512 → Fin 1024 → EReal) (e0 e1 e2 e3 : FVec Ideal S1x512x1024 .bf16)
    (h0 : ∀ d h, e0 (ix3 0 d h) = W (Cert.Moe.expert c 0) d h) (h1 : ∀ d h, e1 (ix3 0 d h) = W (Cert.Moe.expert c 1) d h)
    (h2 : ∀ d h, e2 (ix3 0 d h) = W (Cert.Moe.expert c 2) d h) (h3 : ∀ d h, e3 (ix3 0 d h) = W (Cert.Moe.expert c 3) d h)
    (n h : Fin 1024) :
    accOf (F := Ideal) (baseW c) x rw ix e0 e1 e2 e3 (ix2 n h)
      = (((term4 x rw ix W n h (Cert.Moe.expert c 0) + term4 x rw ix W n h (Cert.Moe.expert c 1))
        + term4 x rw ix W n h (Cert.Moe.expert c 2)) + term4 x rw ix W n h (Cert.Moe.expert c 3)) := by
  have hp2 : k0_pay2 (F := Ideal) x = x := by funext j; idx_vars j; pointwise [k0_pay2]
  have hp3 : k0_pay3 (F := Ideal) ix = ix := by funext j; idx_vars j; pointwise [k0_pay3]
  unfold accOf
  rw [last_apply, first_apply, hp2, hp3]
  simp only [masked_apply, number_eq c 0, number_eq c 1, number_eq c 2, number_eq c 3, chosen_apply, h0, h1, h2, h3]
  rfl

/-! ## The shared rows -/

/-- The rows a device adds the shared expert to, after the addition. -/
theorem shared_apply (x : FVec Ideal S256x512 .bf16) (sw : FVec Ideal S512x1024 .bf16) (o : FVec Ideal S256x1024 .f32)
    (n : Fin 256) (h : Fin 1024) :
    k0_pay9 (F := Ideal) x sw o (ix2 n h) = o (ix2 n h) + ∑ k : Fin 512, x (ix2 n k) * sw (ix2 k h) := by
  pointwise [k0_pay9]

/-- Expert `e` of a device's four, loaded. -/
theorem load_e (e : Fin 4) (inb) (f : (cc0_stg3_0 : Ref sig .tc).ty.Contents (Elt Ideal)) (d : Fin 512) (h : Fin 1024) :
    ewM.view.readAt (Elt Ideal) (Rect.unit (s := S4x512x1024) ![e.val, 0, 0] S1x512x1024.size inb).toLoadRect f (ix3 0 d h)
      = (f : FVec Ideal S4x512x1024 .bf16) (ix3 e d h) := by
  rw [View.readAt_apply]
  refine congrArg (f : S4x512x1024.Idx → EReal) (funext fun a => Fin.ext ?_)
  fin_cases a
  · show e.val + 1 * 0 = e.val; omega
  · show 0 + 1 * d.val = d.val; omega
  · show 0 + 1 * h.val = h.val; omega

/-- The device's quarter of the tokens, loaded. -/
theorem load_x (c : Dev nD) (f : (cc0_stg0_0 : Ref sig .tc).ty.Contents (Elt Ideal)) (n : Fin 256) (k : Fin 512) :
    xM.view.readAt (Elt Ideal) (rx c).toLoadRect f (ix2 n k)
      = (f : FVec Ideal S1024x512 .bf16) (ix2 ⟨256 * c.val + n.val, by have := c.isLt; change c.val < 4 at this; omega⟩ k) := by
  rw [View.readAt_apply]
  refine congrArg (f : S1024x512.Idx → EReal) (funext fun a => Fin.ext ?_)
  fin_cases a
  · show k0_off1 c 0 + 1 * n.val = 256 * c.val + n.val
    rw [k0_off1_eq]; show 256 * c.val + 1 * n.val = _; omega
  · show k0_off1 c 1 + 1 * k.val = k.val
    rw [k0_off1_eq]; show 0 + 1 * k.val = _; omega

/-- The device's quarter of the result, loaded. -/
theorem load_o (c : Dev nD) (f : (cc0_stg5_0 : Ref sig .tc).ty.Contents (Elt Ideal)) (n : Fin 256) (h : Fin 1024) :
    oM.view.readAt (Elt Ideal) (ro c).toLoadRect f (ix2 n h)
      = (f : FVec Ideal S1024x1024 .f32) (ix2 ⟨256 * c.val + n.val, by have := c.isLt; change c.val < 4 at this; omega⟩ h) := by
  rw [View.readAt_apply]
  refine congrArg (f : S1024x1024.Idx → EReal) (funext fun a => Fin.ext ?_)
  fin_cases a
  · show k0_off2 c 0 + 1 * n.val = 256 * c.val + n.val
    rw [k0_off2_eq]; show 256 * c.val + 1 * n.val = _; omega
  · show k0_off2 c 1 + 1 * h.val = h.val
    rw [k0_off2_eq]; show 0 + 1 * h.val = _; omega

/-- The device's quarter of the result, stored: the new value on its rows, the old one on the others. -/
theorem store_o (c : Dev nD) (f : FVec Ideal S1024x1024 .f32) (w : FVec Ideal S256x1024 .f32) (n h : Fin 1024) :
    (oM.access (ro c) : View sig .tc _ _ _).write (Elt Ideal) (f : (cc0_stg5_0 : Ref sig .tc).ty.Contents (Elt Ideal)) w Finset.univ (ix2 n h)
      = if hn : n.val / 256 = c.val then w (ix2 ⟨n.val - 256 * c.val, by omega⟩ h) else f (ix2 n h) := by
  have hw := View.write_whole_slice_unit (Val := Elt Ideal) (cc0_stg5_0 : Ref sig .tc) (k0_off2 c) S256x1024.size (k0_off2_inb c) f w
  refine (congrFun hw (ix2 n h)).trans ?_
  unfold updateSlice
  by_cases hn : n.val / 256 = c.val
  · rw [dif_pos hn, dif_pos]
    · refine congrArg (w : S256x1024.Idx → EReal) (funext fun a => Fin.ext ?_)
      fin_cases a
      · show n.val - k0_off2 c 0 = n.val - 256 * c.val
        rw [k0_off2_eq]; rfl
      · show h.val - k0_off2 c 1 = h.val
        rw [k0_off2_eq]; rfl
    · intro a
      fin_cases a
      · show k0_off2 c 0 ≤ n.val ∧ n.val < k0_off2 c 0 + 256
        rw [k0_off2_eq]; show 256 * c.val ≤ n.val ∧ n.val < 256 * c.val + 256; omega
      · show k0_off2 c 1 ≤ h.val ∧ h.val < k0_off2 c 1 + 1024
        rw [k0_off2_eq]; show 0 ≤ h.val ∧ h.val < 0 + 1024; have := h.isLt; omega
  · rw [dif_neg hn, dif_neg]
    intro hall
    have h0 : k0_off2 c 0 ≤ n.val ∧ n.val < k0_off2 c 0 + 256 := hall 0
    rw [k0_off2_eq] at h0
    change 256 * c.val ≤ n.val ∧ n.val < 256 * c.val + 256 at h0
    omega

/-! ## A device's contribution, and the sum around the ring -/

variable (m : (ℓ : Loc nD τ sig) → Buf (Elt Ideal) ℓ) (ρ : Dev nD → PrngReg)

/-- Device `c`'s contribution, element by element. -/
theorem own_apply (c : Dev nD) (W : Fin 16 → Fin 512 → Fin 1024 → EReal)
    (hW : ∀ (j : Fin 4) (d : Fin 512) (h : Fin 1024), (ewSt m ρ c : FVec Ideal S4x512x1024 .bf16) (ix3 j d h) = W (Cert.Moe.expert c j) d h)
    (n h : Fin 1024) :
    (own m ρ c : FVec Ideal S1024x1024 .f32) (ix2 n h)
      = Cert.Moe.part (fun k => (xSt m ρ c : FVec Ideal S1024x512 .bf16) (ix2 n k))
          (Cert.Moe.score (fun k => (xSt m ρ c : FVec Ideal S1024x512 .bf16) (ix2 n k)) fun k e => (rwSt m ρ c : FVec Ideal S512x16 .bf16) (ix2 k e))
          ((ixSt m ρ c : IVec S1024x1 32) (ix2 n 0)) (fun e d => W e d h)
          (fun k => (swSt m ρ c : FVec Ideal S512x1024 .bf16) (ix2 k h)) n c := by
  have hacc : ∀ n : Fin 1024, (acc m ρ c) (ix2 n h) = _ := fun n =>
    routed_apply c (xSt m ρ c) (rwSt m ρ c) (ixSt m ρ c) W _ _ _ _
      (fun d h => (load_e 0 _ (ewSt m ρ c) d h).trans (hW 0 d h)) (fun d h => (load_e 1 _ (ewSt m ρ c) d h).trans (hW 1 d h))
      (fun d h => (load_e 2 _ (ewSt m ρ c) d h).trans (hW 2 d h)) (fun d h => (load_e 3 _ (ewSt m ρ c) d h).trans (hW 3 d h)) n h
  unfold own
  refine (store_o c (acc m ρ c) _ n h).trans ?_
  unfold Cert.Moe.part
  by_cases hn : n.val / 256 = c.val
  · rw [dif_pos hn, if_pos hn, shared_apply, load_o]
    have hr : (⟨256 * c.val + (n.val - 256 * c.val), by have := c.isLt; change c.val < 4 at this; omega⟩ : Fin 1024) = n := Fin.ext (by show 256 * c.val + (n.val - 256 * c.val) = n.val; omega)
    rw [hr, hacc n]
    refine congrArg _ (Finset.sum_congr rfl fun k _ => ?_)
    have hx := load_x c (xSt m ρ c) ⟨n.val - 256 * c.val, by omega⟩ k
    rw [hr] at hx
    exact congrArg (fun v : EReal => v * (swSt m ρ c : FVec Ideal S512x1024 .bf16) (ix2 k h)) hx
  · rw [dif_neg hn, if_neg hn, add_zero, hacc n]

/-- The three additions. -/
theorem add1_apply (o : FVec Ideal S1024x1024 .f32) (v : FVec Ideal S1024x1024 .f32) (n h : Fin 1024) :
    k0_pay11 (F := Ideal) o (k0_pay10 (F := Ideal) v) (ix2 n h) = o (ix2 n h) + v (ix2 n h) := by
  pointwise [k0_pay11, k0_pay10]

theorem add2_apply (o : FVec Ideal S1024x1024 .f32) (v : FVec Ideal S1024x1024 .f32) (n h : Fin 1024) :
    k0_pay14 (F := Ideal) (k0_pay12 (F := Ideal) o) (k0_pay13 (F := Ideal) (k0_pay10 (F := Ideal) v)) (ix2 n h) = o (ix2 n h) + v (ix2 n h) := by
  pointwise [k0_pay14, k0_pay13, k0_pay12, k0_pay10]

theorem add3_apply (o : FVec Ideal S1024x1024 .f32) (v : FVec Ideal S1024x1024 .f32) (n h : Fin 1024) :
    k0_pay1 (F := Ideal) o (k0_pay10 (F := Ideal) v) (ix2 n h) = o (ix2 n h) + v (ix2 n h) := by
  pointwise [k0_pay1, k0_pay10]

/-- Device `d`'s contribution at token `n`, column `h`. -/
def ownAt (d : Dev nD) (n h : Fin 1024) : EReal := (own m ρ d : FVec Ideal S1024x1024 .f32) (ix2 n h)

/-- Every device ends with the sum of the four contributions. -/
theorem outAt_apply (c : Dev nD) (n h : Fin 1024) :
    (outAt m ρ c : FVec Ideal S1024x1024 .f32) (ix2 n h) = ∑ d : Fin 4, ownAt m ρ d n h := by
  have h1 : (outAt m ρ c : FVec Ideal S1024x1024 .f32) (ix2 n h)
      = ((ownAt m ρ c n h + ownAt m ρ (prv c) n h) + ownAt m ρ (prv (prv c)) n h) + ownAt m ρ (prv (prv (prv c))) n h := by
    unfold outAt V3 V2 V1 V0
    rw [add3_apply]
    unfold out2 V2 V1 V0
    rw [add2_apply]
    unfold out1 V1 V0
    rw [add1_apply]
    rfl
  rw [h1, Fin.sum_univ_four]
  clear h1
  revert c
  generalize hg : (fun d : Fin 4 => ownAt m ρ d n h) = g
  have hc : ∀ d : Fin 4, ownAt m ρ d n h = g d := fun d => congrFun hg d
  intro c
  rw [hc c, hc (prv c), hc (prv (prv c)), hc (prv (prv (prv c))), hc 0, hc 1, hc 2, hc 3]
  clear hc hg
  have hcs : ∀ c : Fin 4, ((g c + g (prv c)) + g (prv (prv c))) + g (prv (prv (prv c))) = g 0 + g 1 + g 2 + g 3 := by
    intro c
    fin_cases c
    · show ((g 0 + g 3) + g 2) + g 1 = _; ac_rfl
    · show ((g 1 + g 0) + g 3) + g 2 = _; ac_rfl
    · show ((g 2 + g 1) + g 0) + g 3 = _; ac_rfl
    · show ((g 3 + g 2) + g 1) + g 0 = _; ac_rfl
  exact hcs c

end Cert.Ring

end
-- ==== Proof.Value.lean ====
/-
# The kernel's value

From finite tokens and router weights every score is finite; the kernel's result is then, on every
device, the reference's.
-/
module

public import proofs.«01_k».proof.Defs
public import proofs.«01_k».proof.Proof.Frames
public import proofs.«01_k».proof.Proof.KernelValue
public import proofs.«01_k».proof.Proof.RefValue
public import proofs.«01_k».proof.Proof.Gen.KernelIdeal.Points
public import proofs.«01_k».proof.Proof.Gen.ReferenceIdeal.Run

@[expose] public section

set_option maxRecDepth 16384

noncomputable section

namespace Cert.Ring

open Cert.KernelIdeal Cert.KernelIdeal.Gen
open Cert.Moe (select_eq ofBits_bot)

open Idealize.ShloMosaic
open Idealize.ShloMosaic.TcCoe
open Idealize.SL.Sem

/-! ## The precondition -/

/-- The side conditions of the precondition's two printings. -/
instance preFacts : Cert.Pre_finite_inputs_KernelIdeal.Facts where
  bitsLt_bf16_f32 := by decide
  bcast_S_S1024x512 := by decide
  bcast_S_S512x16 := by decide

instance preFacts' : Cert.Pre_finite_inputs_ReferenceIdeal.Facts where
  bitsLt_bf16_f32 := by decide
  bcast_S_S1024x512 := by decide
  bcast_S_S512x16 := by decide

/-- The word of plus infinity. -/
theorem ofBits_top : Ideal.ofBits .f32 0x7F800000#32 = ⊤ := by simp [Ideal.ofBits, Ideal.ieee]

/-- A value whose magnitude compares below plus infinity is a real number. -/
theorem real_of_lt (v : EReal) (h : Ideal.cmp .olt (max v (-v)) ⊤ = 1#1) : ∃ r : ℝ, v = r := by
  induction v using EReal.rec with
  | bot => simp [Ideal.cmp] at h
  | top => simp [Ideal.cmp] at h
  | coe r => exact ⟨r, rfl⟩

/-- Every token entry is a real number, -/
theorem real_x (x : FVec Ideal S1024x512 .bf16) (rw : FVec Ideal S512x16 .bf16) (ix : IVec S1024x1 32)
    (ew : FVec Ideal S4x512x1024 .bf16) (sw : FVec Ideal S512x1024 .bf16)
    (h : (Cert.Pre_finite_inputs_KernelIdeal.fn (F := Ideal) x rw ix ew sw).1 = fun _ => 1#1) (n : Fin 1024) (k : Fin 512) :
    ∃ r : ℝ, x (ix2 n k) = r := by
  refine real_of_lt _ ((?_ : _ = _).trans (congrFun h (ix2 n k)))
  symm
  pointwise [Cert.Pre_finite_inputs_KernelIdeal.fn, ofBits_top]
  rfl

/-- and every router weight is. -/
theorem real_rw (x : FVec Ideal S1024x512 .bf16) (rw : FVec Ideal S512x16 .bf16) (ix : IVec S1024x1 32)
    (ew : FVec Ideal S4x512x1024 .bf16) (sw : FVec Ideal S512x1024 .bf16)
    (h : (Cert.Pre_finite_inputs_KernelIdeal.fn (F := Ideal) x rw ix ew sw).2 = fun _ => 1#1) (k : Fin 512) (e : Fin 16) :
    ∃ r : ℝ, rw (ix2 k e) = r := by
  refine real_of_lt _ ((?_ : _ = _).trans (congrFun h (ix2 k e)))
  symm
  pointwise [Cert.Pre_finite_inputs_KernelIdeal.fn, ofBits_top]
  rfl

/-- So every score is. -/
theorem real_score (x : Fin 512 → EReal) (rW : Fin 512 → Fin 16 → EReal) (hx : ∀ k, ∃ r : ℝ, x k = r)
    (hr : ∀ k e, ∃ r : ℝ, rW k e = r) (e : Fin 16) : ∃ r : ℝ, Cert.Moe.score x rW e = r := by
  choose a ha using hx
  choose b hb using hr
  refine ⟨∑ k, a k * b k e, ?_⟩
  unfold Cert.Moe.score
  rw [← Cert.Moe.sum_real]
  exact Finset.sum_congr rfl fun k _ => by rw [ha, hb, EReal.coe_mul]

/-! ## The staged arrays -/

variable (m : (ℓ : Loc nD τ sig) → Buf (Elt Ideal) ℓ) (ρ : Dev nD → PrngReg)

/-- A whole array read through its window is the array. -/
theorem xSt_eq (c : Dev nD) : xSt m ρ c = m ((c : Thread nD τ).loc main_arg0) :=
  Memref.read_access_unit_zero (Elt Ideal) main_arg0 (off := fun a => win0_0.kind.off (win0_0.index (0 : Fin 1) a) (win0_0.size a)) (funext fun a => by fin_cases a <;> rfl) _ _
theorem rwSt_eq (c : Dev nD) : rwSt m ρ c = m ((c : Thread nD τ).loc main_arg1) :=
  Memref.read_access_unit_zero (Elt Ideal) main_arg1 (off := fun a => win0_1.kind.off (win0_1.index (0 : Fin 1) a) (win0_1.size a)) (funext fun a => by fin_cases a <;> rfl) _ _
theorem ixSt_eq (c : Dev nD) : ixSt m ρ c = m ((c : Thread nD τ).loc main_arg2) :=
  Memref.read_access_unit_zero (Elt Ideal) main_arg2 (off := fun a => win0_2.kind.off (win0_2.index (0 : Fin 1) a) (win0_2.size a)) (funext fun a => by fin_cases a <;> rfl) _ _
theorem ewSt_eq (c : Dev nD) : ewSt m ρ c = m ((c : Thread nD τ).loc main_arg3) :=
  Memref.read_access_unit_zero (Elt Ideal) main_arg3 (off := fun a => win0_3.kind.off (win0_3.index (0 : Fin 1) a) (win0_3.size a)) (funext fun a => by fin_cases a <;> rfl) _ _
theorem swSt_eq (c : Dev nD) : swSt m ρ c = m ((c : Thread nD τ).loc main_arg4) :=
  Memref.read_access_unit_zero (Elt Ideal) main_arg4 (off := fun a => win0_4.kind.off (win0_4.index (0 : Fin 1) a) (win0_4.size a)) (funext fun a => by fin_cases a <;> rfl) _ _

/-- The result array holds what the result buffer held. -/
theorem final_out (c : Dev nD) : finalA m ρ c (5 : Fin 6) = outAt m ρ c := by
  have h := (dats m ρ 0 c).arrAt_succ (5 : Fin 6) t₀
  rw [if_pos (flush0_5 t₀)] at h
  exact h.trans (Memref.write_access_unit_zero_univ (Elt Ideal) main_v1
    (off := fun a => win0_5.kind.off (win0_5.index (0 : Fin 1) a) (win0_5.size a)) (funext fun a => by fin_cases a <;> rfl) _ _ _)

/-- A device's block of the experts: its four of the sixteen. -/
theorem block_apply (c : Dev nD) (f : FVec Ideal Cert.ReferenceIdeal.S16x512x1024 .bf16) (hb)
    (j : Fin 4) (d : Fin 512) (h : Fin 1024) :
    (Layout.block ⟨3, ![4, 512, 1024]⟩ ⟨3, ![16, 512, 1024]⟩ 0 4 c f hb : FVec Ideal S4x512x1024 .bf16) (ix3 j d h)
      = f (ix3 (Cert.Moe.expert c j) d h) := by
  refine congrArg (f : Cert.ReferenceIdeal.S16x512x1024.Idx → EReal) (funext fun a => Fin.ext ?_)
  fin_cases a
  · show c.val * 4 + j.val = 4 * c.val + j.val; omega
  · rfl
  · rfl

/-- Where the tokens and the router weights are finite, the kernel's result is on every device the
    reference's on the whole arrays. -/
theorem result_eq (c : Dev nD) (x : FVec Ideal S1024x512 .bf16) (rw : FVec Ideal S512x16 .bf16) (ix : IVec S1024x1 32)
    (W : FVec Ideal Cert.ReferenceIdeal.S16x512x1024 .bf16) (sw : FVec Ideal S512x1024 .bf16)
    (hx : ∀ n k, ∃ r : ℝ, x (ix2 n k) = r) (hr : ∀ k e, ∃ r : ℝ, rw (ix2 k e) = r)
    (h0 : ∀ c : Dev nD, m ((c : Thread nD τ).loc main_arg0) = x) (h1 : ∀ c : Dev nD, m ((c : Thread nD τ).loc main_arg1) = rw)
    (h2 : ∀ c : Dev nD, m ((c : Thread nD τ).loc main_arg2) = ix)
    (h3 : ∀ (c : Dev nD) (j : Fin 4) (d : Fin 512) (h : Fin 1024),
      (m ((c : Thread nD τ).loc main_arg3) : FVec Ideal S4x512x1024 .bf16) (ix3 j d h) = W (ix3 (Cert.Moe.expert c j) d h))
    (h4 : ∀ c : Dev nD, m ((c : Thread nD τ).loc main_arg4) = sw) :
    outAt m ρ c = Cert.Moe.refOut x rw ix W sw := by
  funext i
  obtain ⟨n, h, rfl⟩ : ∃ (n h : Fin 1024), i = ix2 n h := ⟨i 0, i 1, eq_ix2 i⟩
  refine (outAt_apply m ρ c n h).trans ?_
  rw [Cert.Moe.refOut_apply]
  refine Eq.trans (b := ∑ d : Fin 4, (Cert.Moe.part (fun k => x (ix2 n k)) (Cert.Moe.score (fun k => x (ix2 n k)) fun k e => rw (ix2 k e))
    (ix (ix2 n 0)) (fun e d => W (ix3 e d h)) (fun k => sw (ix2 k h)) n d : EReal)) (Finset.sum_congr rfl fun d _ => ?_) (Cert.Moe.sum_part (fun k => x (ix2 n k))
    (Cert.Moe.score (fun k => x (ix2 n k)) fun k e => rw (ix2 k e)) (real_score _ _ (hx n) hr) (ix (ix2 n 0))
    (fun e d => W (ix3 e d h)) (fun k => sw (ix2 k h)) n)
  refine (own_apply m ρ d (fun e k h => W (ix3 e k h)) (fun j k h => ?_) n h).trans ?_
  · rw [ewSt_eq]; exact h3 d j k h
  · rw [xSt_eq, rwSt_eq, ixSt_eq, swSt_eq, h0 d, h1 d, h2 d, h4 d]

/-- The kernel and the reference compute the same function. -/
theorem same_value : Cert.algebraic_KernelIdeal_ReferenceIdeal_pre_finite_inputs_KernelIdeal := by
  intro m g m' g' hpre hagree
  refine ⟨Cert.Moe.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run defs _ _).mono (fun r h c => ⟨((h.1 c (5 : Fin 6)).trans (final_out m g c)).trans ?_, ends_args m g h.1 c⟩) (run_main m g)
    refine result_eq m g c _ _ _ _ _ (fun n k => ?_) (fun k e => ?_) (fun c => (hagree c).1) (fun c => (hagree c).2.1)
      (fun c => (hagree c).2.2.1) (fun c j d h => ?_) (fun c => (hagree c).2.2.2.2)
    · rw [← (hagree 0).1]
      exact real_x _ _ _ _ _ (hpre 0).1 n k
    · rw [← (hagree 0).2.1]
      exact real_rw _ _ _ _ _ (hpre 0).2 k e
    · refine (congrFun (hagree c).2.2.2.1 (ix3 j d h)).trans ?_
      exact block_apply c _ _ j d h
  · refine (θ_run Cert.ReferenceIdeal.defs _ _).mono (fun r h => h 0) (Cert.ReferenceIdeal.Value.run (F := Ideal) m' g')

end Cert.Ring

end
-- ==== Proof.lean ====
/-
# The certificate

The frames, the preservation and the value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Ring.preFacts, Cert.Ring.preFacts',
  Cert.Ring.frame_kernel, Cert.Ring.frame_kernelIdeal, fun m ρ _ => Cert.Ring.frame_kernelIdeal m ρ trivial,
  Cert.Ring.frame_referenceIdeal, fun m ρ _ => Cert.Ring.frame_referenceIdeal m ρ trivial, trivial, Cert.Ring.same_value⟩

end Cert.Proof

end
